-- ==== Defs.lean ====
def Pre_Kernel [hPre_classes : Cert.Pre_classes.Facts] (m : (ℓ : Loc Cert.Kernel.nD Cert.Kernel.τ Cert.Kernel.sig) → Buf (Elt Bits) ℓ) : Prop :=
  ∀ c : Dev Cert.Kernel.nD,
    (Cert.Pre_classes.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_classes : Cert.Pre_classes.Facts] (m : (ℓ : Loc Cert.KernelIdeal.nD Cert.KernelIdeal.τ Cert.KernelIdeal.sig) → Buf (Elt Ideal) ℓ) : Prop :=
  ∀ c : Dev Cert.KernelIdeal.nD,
    (Cert.Pre_classes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_classes [hPre_classes : Cert.Pre_classes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_classes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_classes : Cert.Pre_classes.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_classes : Cert.Pre_classes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_classes [hReferenceIdeal : Cert.ReferenceIdeal.Facts] [hPre_classes : Cert.Pre_classes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_classes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_classes : Cert.Pre_classes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_classes : Cert.Pre_classes.Facts),
    quiescent_Kernel (hKernel := hKernel) (hPre_classes := hPre_classes)
    ∧ quiescent_KernelIdeal (hKernelIdeal := hKernelIdeal) (hPre_classes := hPre_classes)
    ∧ quiescent_ReferenceIdeal (hReferenceIdeal := hReferenceIdeal)
    ∧ quiescent_ReferenceIdeal_pre_classes (hReferenceIdeal := hReferenceIdeal) (hPre_classes := hPre_classes)
    ∧ preserves_Kernel_KernelIdeal
    ∧ algebraic_KernelIdeal_ReferenceIdeal (hKernelIdeal := hKernelIdeal) (hReferenceIdeal := hReferenceIdeal) (hPre_classes := hPre_classes)
-- ==== Pre_classes.lean ====
abbrev S8x512x512 : Shape := ⟨3, ![8, 512, 512]⟩
abbrev S_ : Shape := ⟨0, ![]⟩

class Facts : Prop where
  bcast_S_S8x512x512 : S_.BroadcastsInDim S8x512x512 (![] : Fin 0 → Fin S8x512x512.rank)
  reducesTo_S8x512x512_S_d0_1_2 : S8x512x512.ReducesTo [0, 1, 2] S_
  h_S_ : 0 < S_.numel

variable [Facts]

def fn {F : FTy → Type} [FloatOps F] (main_arg0 : IVec S8x512x512 32) (main_arg1 : IVec S8x512x512 32) : IVec S_ 1 :=
  let main_c : IVec S_ 32 := constantI S_ 32 0#32
  let main_v0 : IVec S8x512x512 32 := broadcastInDim S8x512x512 ![] bcast_S_S8x512x512 main_c
  let main_v1 : IVec S8x512x512 1 := cmpi .sge main_arg0 main_v0
  let main_c_0 : IVec S_ 1 := constantI S_ 1 1#1
  let main_v2 : IVec S_ 1 := (fun x v => Host.reduce IntOp.andi x v reducesTo_S8x512x512_S_d0_1_2 h_S_) main_v1 main_c_0
  let main_c_1 : IVec S_ 32 := constantI S_ 32 150#32
  let main_v3 : IVec S8x512x512 32 := broadcastInDim S8x512x512 ![] bcast_S_S8x512x512 main_c_1
  let main_v4 : IVec S8x512x512 1 := cmpi .slt main_arg0 main_v3
  let main_c_2 : IVec S_ 1 := constantI S_ 1 1#1
  let main_v5 : IVec S_ 1 := (fun x v => Host.reduce IntOp.andi x v reducesTo_S8x512x512_S_d0_1_2 h_S_) main_v4 main_c_2
  let main_v6 : IVec S_ 1 := andi main_v2 main_v5
  let main_c_3 : IVec S_ 32 := constantI S_ 32 0#32
  let main_v7 : IVec S8x512x512 32 := broadcastInDim S8x512x512 ![] bcast_S_S8x512x512 main_c_3
  let main_v8 : IVec S8x512x512 1 := cmpi .sge main_arg1 main_v7
  let main_c_4 : IVec S_ 1 := constantI S_ 1 1#1
  let main_v9 : IVec S_ 1 := (fun x v => Host.reduce IntOp.andi x v reducesTo_S8x512x512_S_d0_1_2 h_S_) main_v8 main_c_4
  let main_v10 : IVec S_ 1 := andi main_v6 main_v9
  let main_c_5 : IVec S_ 32 := constantI S_ 32 150#32
  let main_v11 : IVec S8x512x512 32 := broadcastInDim S8x512x512 ![] bcast_S_S8x512x512 main_c_5
  let main_v12 : IVec S8x512x512 1 := cmpi .slt main_arg1 main_v11
  let main_c_6 : IVec S_ 1 := constantI S_ 1 1#1
  let main_v13 : IVec S_ 1 := (fun x v => Host.reduce IntOp.andi x v reducesTo_S8x512x512_S_d0_1_2 h_S_) main_v12 main_c_6
  let main_v14 : IVec S_ 1 := andi main_v10 main_v13
  main_v14
-- ==== Kernel.lean ====
abbrev S8x512x512 : Shape := ⟨3, ![8, 512, 512]⟩
abbrev S2097152 : Shape := ⟨1, ![2097152]⟩
abbrev S32x24000 : Shape := ⟨2, ![32, 24000]⟩
abbrev S8192 : Shape := ⟨1, ![8192]⟩
abbrev S24000 : Shape := ⟨1, ![24000]⟩
abbrev S16 : Shape := ⟨1, ![16]⟩
abbrev S_ : Shape := ⟨0, ![]⟩
abbrev S1x24000 : Shape := ⟨2, ![1, 24000]⟩
abbrev S32x150x160 : Shape := ⟨3, ![32, 150, 160]⟩
abbrev S1x128 : Shape := ⟨2, ![1, 128]⟩
abbrev S150x160 : Shape := ⟨2, ![150, 160]⟩
abbrev S150 : Shape := ⟨1, ![150]⟩
abbrev S160 : Shape := ⟨1, ![160]⟩
abbrev S1x150 : Shape := ⟨2, ![1, 150]⟩
abbrev S1 : Shape := ⟨1, ![1]⟩
abbrev S1x1 : Shape := ⟨2, ![1, 1]⟩
abbrev S1x3 : Shape := ⟨2, ![1, 3]⟩
abbrev S3 : Shape := ⟨1, ![3]⟩

abbrev nBuf : Table → Nat
  | .hbm => 9
  | .local .tc .vmem => 2
  | .local .scVector .vmem => 3
  | _ => 0

abbrev bufTy : (tb : Table) → Fin (nBuf tb) → BufTy
  | .hbm, ⟨0, _⟩ => ⟨S8x512x512, .i32⟩
  | .hbm, ⟨1, _⟩ => ⟨S8x512x512, .i32⟩
  | .hbm, ⟨2, _⟩ => ⟨S2097152, .i32⟩
  | .hbm, ⟨3, _⟩ => ⟨S2097152, .i32⟩
  | .hbm, ⟨4, _⟩ => ⟨S32x24000, .i32⟩
  | .hbm, ⟨5, _⟩ => ⟨S32x150x160, .i32⟩
  | .hbm, ⟨6, _⟩ => ⟨S1x128, .f32⟩
  | .hbm, ⟨7, _⟩ => ⟨S1x3, .f32⟩
  | .hbm, ⟨8, _⟩ => ⟨S3, .f32⟩
  | .local .tc .vmem, ⟨0, _⟩ => ⟨S32x150x160, .i32⟩
  | .local .tc .vmem, ⟨1, _⟩ => ⟨S1x128, .f32⟩
  | .local .scVector .vmem, ⟨0, _⟩ => ⟨S8192, .i32⟩
  | .local .scVector .vmem, ⟨1, _⟩ => ⟨S8192, .i32⟩
  | .local .scVector .vmem, ⟨2, _⟩ => ⟨S24000, .i32⟩
  | _, _ => ⟨S8x512x512, .i32⟩

abbrev bufScoped : (cs : CoreSpace) → Fin (nBuf (.local .tc cs)) → Bool
  | .vmem, ⟨0, _⟩ => true
  | .vmem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => true
  | ⟨4, _⟩ => true
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v0_scv : Ref sig .scVector := ⟨.hbm, 2, rfl⟩
abbrev main_v1_scv : Ref sig .scVector := ⟨.hbm, 3, rfl⟩
abbrev main_v2_scv : Ref sig .scVector := ⟨.hbm, 4, rfl⟩
abbrev cc1_stg0_0 : Ref sig .tc := ⟨.vmem, 0, rfl⟩
abbrev cc1_stg1_0 : Ref sig .tc := ⟨.vmem, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 3
abbrev cc1_sem1_0 : DmaSem sig := 4
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_1 : BitVec 32 := 0#32
  let c1500_i32 : BitVec 32 := 1500#32
  let v4 : BitVec 32 := Scalar.addi c0_i32_1 c1500_i32
  let c1_i32 : BitVec 32 := 1#32
  ⟨c0_i32_1, v4, c1_i32⟩
def k0_off1 (k0_t1 : Fin k0_t1_loop.trips) : Fin 1 → Nat :=
  let c0_i32_1 : BitVec 32 := 0#32
  let c1_i32 : BitVec 32 := 1#32
  let arg8 : BitVec 32 := Scf.iv c0_i32_1 c1_i32 k0_t1
  let c16_i32 : BitVec 32 := 16#32
  let v8 : BitVec 32 := Scalar.muli arg8 c16_i32
  let v9 : Index := Scalar.indexCast v8
  ![v9.toNat]
@[reducible] def k0_t2_loop : Scf.Loop 32 :=
  let c0_i32_4 : BitVec 32 := 0#32
  let c8_i32 : BitVec 32 := 8#32
  let v6 : BitVec 32 := Scalar.addi c0_i32_4 c8_i32
  let c1_i32_5 : BitVec 32 := 1#32
  ⟨c0_i32_4, v6, c1_i32_5⟩
def k0_mult1 (i : grid0.Coords) (k0_t2 : Fin k0_t2_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c0_i32_4 : BitVec 32 := 0#32
  let c1_i32_5 : BitVec 32 := 1#32
  let arg8 : BitVec 32 := Scf.iv c0_i32_4 c1_i32_5 k0_t2
  let c8192_i32 : BitVec 32 := 8192#32
  let v8 : BitVec 32 := Scalar.muli arg8 c8192_i32
  let v9 : BitVec 32 := Scalar.addi v2 v8
  v9
def k0_off2 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c0_i32_4 : BitVec 32 := 0#32
  let c1_i32_5 : BitVec 32 := 1#32
  let arg8 : BitVec 32 := Scf.iv c0_i32_4 c1_i32_5 k0_t2
  let c8192_i32 : BitVec 32 := 8192#32
  let v8 : BitVec 32 := Scalar.muli arg8 c8192_i32
  let v9 : BitVec 32 := Scalar.addi v2 v8
  let v10 : BitVec 32 := v9
  ![v10.toNat]
@[reducible] def k0_t3_loop : Scf.Loop 32 :=
  let c0_i32_8 : BitVec 32 := 0#32
  let c512_i32 : BitVec 32 := 512#32
  let v11 : BitVec 32 := Scalar.addi c0_i32_8 c512_i32
  let c1_i32_9 : BitVec 32 := 1#32
  ⟨c0_i32_8, v11, c1_i32_9⟩
def k0_off3 (k0_t3 : Fin k0_t3_loop.trips) : Fin 1 → Nat :=
  let c0_i32_8 : BitVec 32 := 0#32
  let c1_i32_9 : BitVec 32 := 1#32
  let arg10 : BitVec 32 := Scf.iv c0_i32_8 c1_i32_9 k0_t3
  let c16_i32 : BitVec 32 := 16#32
  let v13 : BitVec 32 := Scalar.muli arg10 c16_i32
  let v14 : Index := Scalar.indexCast v13
  ![v14.toNat]

def k0_chk1 (v21 : IVec S16 32) : Prop :=
  (∀ a x, ((![v21] : Fin 1 → IVec S16 32) a x).toNat < S24000.size a)
theorem k0_idx1_inb : ∀ (v21 : IVec S16 32) (k0_hw1 : k0_chk1 v21), ∀ a x, ((![v21] : Fin 1 → IVec S16 32) a x).toNat < S24000.size a := fun v21 k0_hw1 => k0_hw1
def k0_off4 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_7_r2 : BitVec 32 := 0#32
  ![v1.toNat, 0]
abbrev grid1 : Pipeline.Grid := .none

abbrev stage1_0 : Fin 1 → Memref sig .tc .vmem S32x150x160 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x512x512 : Shape := ⟨3, ![8, 512, 512]⟩
abbrev S2097152 : Shape := ⟨1, ![2097152]⟩
abbrev S_ : Shape := ⟨0, ![]⟩
abbrev S22500 : Shape := ⟨1, ![22500]⟩
abbrev S2097152x1 : Shape := ⟨2, ![2097152, 1]⟩
abbrev S150x150 : Shape := ⟨2, ![150, 150]⟩
abbrev S150 : Shape := ⟨1, ![150]⟩
abbrev S1x150 : Shape := ⟨2, ![1, 150]⟩
abbrev S1 : Shape := ⟨1, ![1]⟩
abbrev S3 : Shape := ⟨1, ![3]⟩

abbrev nBuf : Space → Nat
  | .hbm => 96
  | .vmem => 0
  | .smem => 0
  | _ => 0

abbrev bufTy : (tb : Table) → Fin (tcTables nBuf tb) → BufTy
  | .hbm, ⟨0, _⟩ => ⟨S8x512x512, .i32⟩
  | .hbm, ⟨1, _⟩ => ⟨S8x512x512, .i32⟩
  | .hbm, ⟨2, _⟩ => ⟨S2097152, .i32⟩
  | .hbm, ⟨3, _⟩ => ⟨S2097152, .i32⟩
  | .hbm, ⟨4, _⟩ => ⟨S_, .i32⟩
  | .hbm, ⟨5, _⟩ => ⟨S2097152, .i32⟩
  | .hbm, ⟨6, _⟩ => ⟨S2097152, .i1⟩
  | .hbm, ⟨7, _⟩ => ⟨S_, .i32⟩
  | .hbm, ⟨8, _⟩ => ⟨S2097152, .i32⟩
  | .hbm, ⟨9, _⟩ => ⟨S2097152, .i32⟩
  | .hbm, ⟨10, _⟩ => ⟨S2097152, .i32⟩
  | .hbm, ⟨11, _⟩ => ⟨S_, .i32⟩
  | .hbm, ⟨12, _⟩ => ⟨S_, .i32⟩
  | .hbm, ⟨13, _⟩ => ⟨S2097152, .i32⟩
  | .hbm, ⟨14, _⟩ => ⟨S2097152, .i32⟩
  | .hbm, ⟨15, _⟩ => ⟨S2097152, .f32⟩
  | .hbm, ⟨16, _⟩ => ⟨S_, .f32⟩
  | .hbm, ⟨17, _⟩ => ⟨S22500, .f32⟩
  | .hbm, ⟨18, _⟩ => ⟨S2097152x1, .i32⟩
  | .hbm, ⟨19, _⟩ => ⟨S22500, .f32⟩
  | .hbm, ⟨20, _⟩ => ⟨S150x150, .f32⟩
  | .hbm, ⟨21, _⟩ => ⟨S150x150, .f32⟩
  | .hbm, ⟨22, _⟩ => ⟨S_, .f32⟩
  | .hbm, ⟨23, _⟩ => ⟨S150, .f32⟩
  | .hbm, ⟨24, _⟩ => ⟨S150x150, .f32⟩
  | .hbm, ⟨25, _⟩ => ⟨S1x150, .f32⟩
  | .hbm, ⟨26, _⟩ => ⟨S150x150, .f32⟩
  | .hbm, ⟨27, _⟩ => ⟨S150x150, .f32⟩
  | .hbm, ⟨28, _⟩ => ⟨S150x150, .f32⟩
  | .hbm, ⟨29, _⟩ => ⟨S_, .f32⟩
  | .hbm, ⟨30, _⟩ => ⟨S150, .f32⟩
  | .hbm, ⟨31, _⟩ => ⟨S150, .i1⟩
  | .hbm, ⟨32, _⟩ => ⟨S150, .i1⟩
  | .hbm, ⟨33, _⟩ => ⟨S150x150, .i32⟩
  | .hbm, ⟨34, _⟩ => ⟨S150x150, .i32⟩
  | .hbm, ⟨35, _⟩ => ⟨S150x150, .i1⟩
  | .hbm, ⟨36, _⟩ => ⟨S_, .f32⟩
  | .hbm, ⟨37, _⟩ => ⟨S_, .f32⟩
  | .hbm, ⟨38, _⟩ => ⟨S150x150, .f32⟩
  | .hbm, ⟨39, _⟩ => ⟨S150x150, .f32⟩
  | .hbm, ⟨40, _⟩ => ⟨S_, .f32⟩
  | .hbm, ⟨41, _⟩ => ⟨S150, .f32⟩
  | .hbm, ⟨42, _⟩ => ⟨S150, .i1⟩
  | .hbm, ⟨43, _⟩ => ⟨S_, .f32⟩
  | .hbm, ⟨44, _⟩ => ⟨S_, .f32⟩
  | .hbm, ⟨45, _⟩ => ⟨S150, .f32⟩
  | .hbm, ⟨46, _⟩ => ⟨S150, .f32⟩
  | .hbm, ⟨47, _⟩ => ⟨S_, .f32⟩
  | .hbm, ⟨48, _⟩ => ⟨S_, .f32⟩
  | .hbm, ⟨49, _⟩ => ⟨S150, .i32⟩
  | .hbm, ⟨50, _⟩ => ⟨S_, .i32⟩
  | .hbm, ⟨51, _⟩ => ⟨S_, .i32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S150x150, .f32⟩
  | .hbm, ⟨57, _⟩ => ⟨S150x150, .f32⟩
  | .hbm, ⟨58, _⟩ => ⟨S_, .f32⟩
  | .hbm, ⟨59, _⟩ => ⟨S150, .f32⟩
  | .hbm, ⟨60, _⟩ => ⟨S150x150, .i32⟩
  | .hbm, ⟨61, _⟩ => ⟨S150x150, .i32⟩
  | .hbm, ⟨62, _⟩ => ⟨S_, .i32⟩
  | .hbm, ⟨63, _⟩ => ⟨S150x150, .i32⟩
  | .hbm, ⟨64, _⟩ => ⟨S150x150, .i32⟩
  | .hbm, ⟨65, _⟩ => ⟨S150x150, .i1⟩
  | .hbm, ⟨66, _⟩ => ⟨S_, .f32⟩
  | .hbm, ⟨67, _⟩ => ⟨S150x150, .f32⟩
  | .hbm, ⟨68, _⟩ => ⟨S150x150, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S150, .f32⟩
  | .hbm, ⟨76, _⟩ => ⟨S_, .f32⟩
  | .hbm, ⟨77, _⟩ => ⟨S150, .f32⟩
  | .hbm, ⟨78, _⟩ => ⟨S150, .f32⟩
  | .hbm, ⟨79, _⟩ => ⟨S150, .f32⟩
  | .hbm, ⟨80, _⟩ => ⟨S150, .f32⟩
  | .hbm, ⟨81, _⟩ => ⟨S150, .i32⟩
  | .hbm, ⟨82, _⟩ => ⟨S_, .i32⟩
  | .hbm, ⟨83, _⟩ => ⟨S_, .i32⟩
  | .hbm, ⟨84, _⟩ => ⟨S_, .f32⟩
  | .hbm, ⟨85, _⟩ => ⟨S_, .f32⟩
  | .hbm, ⟨86, _⟩ => ⟨S150, .f32⟩
  | .hbm, ⟨87, _⟩ => ⟨S150, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S1, .f32⟩
  | .hbm, ⟨93, _⟩ => ⟨S1, .f32⟩
  | .hbm, ⟨94, _⟩ => ⟨S1, .f32⟩
  | .hbm, ⟨95, _⟩ => ⟨S3, .f32⟩
  | _, _ => ⟨S8x512x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_call1_v0 : Ref sig .tc := ⟨.hbm, 37, rfl⟩
abbrev main_call1_v1 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_call2_v0 : Ref sig .tc := ⟨.hbm, 44, rfl⟩
abbrev main_call2_v1 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_v31 : Ref sig .tc := ⟨.hbm, 49, rfl⟩
abbrev main_c_8 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_9 : Ref sig .tc := ⟨.hbm, 54, rfl⟩
abbrev main_call3_v0 : Ref sig .tc := ⟨.hbm, 55, rfl⟩
abbrev main_call3_v1 : Ref sig .tc := ⟨.hbm, 56, rfl⟩
abbrev main_v35 : Ref sig .tc := ⟨.hbm, 57, rfl⟩
abbrev main_cst_10 : Ref sig .tc := ⟨.hbm, 58, rfl⟩
abbrev main_v36 : Ref sig .tc := ⟨.hbm, 59, rfl⟩
abbrev main_call4_v0 : Ref sig .tc := ⟨.hbm, 60, rfl⟩
abbrev main_call4_v1 : Ref sig .tc := ⟨.hbm, 61, rfl⟩
abbrev main_call4_c : Ref sig .tc := ⟨.hbm, 62, rfl⟩
abbrev main_call4_v2 : Ref sig .tc := ⟨.hbm, 63, rfl⟩
abbrev main_call4_v3 : Ref sig .tc := ⟨.hbm, 64, rfl⟩
abbrev main_call4_v4 : Ref sig .tc := ⟨.hbm, 65, rfl⟩
abbrev main_call4_cst : Ref sig .tc := ⟨.hbm, 66, rfl⟩
abbrev main_call4_v5 : Ref sig .tc := ⟨.hbm, 67, rfl⟩
abbrev main_call4_v6 : Ref sig .tc := ⟨.hbm, 68, rfl⟩
abbrev main_call4_cst_0 : Ref sig .tc := ⟨.hbm, 69, rfl⟩
abbrev main_v37 : Ref sig .tc := ⟨.hbm, 70, rfl⟩
abbrev main_cst_11 : Ref sig .tc := ⟨.hbm, 71, rfl⟩
abbrev main_v38 : Ref sig .tc := ⟨.hbm, 72, rfl⟩
abbrev main_v39 : Ref sig .tc := ⟨.hbm, 73, rfl⟩
abbrev main_cst_12 : Ref sig .tc := ⟨.hbm, 74, rfl⟩
abbrev main_v40 : Ref sig .tc := ⟨.hbm, 75, rfl⟩
abbrev main_cst_13 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_c_14 : Ref sig .tc := ⟨.hbm, 82, rfl⟩
abbrev main_v46 : Ref sig .tc := ⟨.hbm, 83, rfl⟩
abbrev main_cst_15 : Ref sig .tc := ⟨.hbm, 84, rfl⟩
abbrev main_call5_v0 : Ref sig .tc := ⟨.hbm, 85, rfl⟩
abbrev main_call5_v1 : Ref sig .tc := ⟨.hbm, 86, rfl⟩
abbrev main_v47 : Ref sig .tc := ⟨.hbm, 87, rfl⟩
abbrev main_cst_16 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩

abbrev nD : Nat := 1
abbrev τ : Topo := Topo.v7x

variable {F : FTy → Type} [FloatOps F]
-- ==== Proof.Histogram.lean ====
/-
  Counting pixels by bin, with no program in sight: how many of the first `n` pixels fall in bin `b`, what a vector of
  sixteen bins adds to those counts, and that one masked adding scatter of `scan_count`'s running counts at their last
  occurrences adds exactly that.
-/
module

public import Idealize.ShloMosaic.PureOps.ShapeOps
public import Mathlib.Data.BitVec
public import Mathlib.Algebra.BigOperators.Fin

@[expose] public section

noncomputable section

namespace Cert.Proof.Histogram

open Idealize.ShloMosaic

/-! ## Counts of the first pixels -/

/-- How many of the pixels `0, …, n - 1` have bin `b`. -/
def count (bin : ℕ → ℕ) (n b : ℕ) : ℕ := ((Finset.range n).filter fun x => bin x = b).card

theorem count_zero (bin : ℕ → ℕ) (b : ℕ) : count bin 0 b = 0 := by simp [count]

theorem count_le (bin : ℕ → ℕ) (n b : ℕ) : count bin n b ≤ n := by
  unfold count
  exact (Finset.card_filter_le _ _).trans (by simp)

/-- The count as a sum of ones. -/
theorem count_eq_sum (bin : ℕ → ℕ) (n b : ℕ) : count bin n b = ∑ x ∈ Finset.range n, if bin x = b then 1 else 0 := by
  unfold count; rw [Finset.card_filter]

/-- The pixels after the first `n`, one block of `w` of them, add the block's own count. -/
theorem count_add (bin : ℕ → ℕ) (n w b : ℕ) :
    count bin (n + w) b = count bin n b + (Finset.univ.filter fun k : Fin w => bin (n + k.val) = b).card := by
  rw [count_eq_sum, count_eq_sum, Finset.sum_range_add, Finset.card_filter, ← Finset.sum_range (fun k => if bin (n + k) = b then 1 else 0)]

/-- Splitting the pixels into `m` blocks of `w`: the count is the sum of the blocks' counts. -/
theorem count_mul (bin : ℕ → ℕ) (m w b : ℕ) :
    count bin (m * w) b = ∑ k ∈ Finset.range m, count (fun x => bin (k * w + x)) w b := by
  induction m with
  | zero => simp [count]
  | succ m ih =>
    rw [Nat.succ_mul, count_add, ih, Finset.sum_range_succ]
    congr 1
    rw [count_eq_sum, Finset.card_filter, Finset.sum_range]

/-! ## One vector of sixteen bins -/

/-- An adding fold of single-cell updates, at one cell: the old value plus every contribution made to that cell. -/
theorem foldl_add {K I : Type} (l : List K) (g : I → BitVec 32) (hit : K → I → Prop) [∀ k i, Decidable (hit k i)]
    (on : K → Prop) [∀ k, Decidable (on k)] (at_ : K → I) (hhit : ∀ k i, hit k i ↔ i = at_ k) (c : K → BitVec 32) (j : I) :
    l.foldl (fun g k => if on k then fun j => if hit k j then g (at_ k) + c k else g j else g) g j
      = g j + (l.map fun k => if on k ∧ hit k j then c k else 0).sum := by
  induction l generalizing g with
  | nil => simp
  | cons k l ih =>
    rw [List.foldl_cons, ih, List.map_cons, List.sum_cons, ← add_assoc]
    congr 1
    by_cases ho : on k
    · by_cases hj : hit k j
      · have hj' := (hhit k j).mp hj
        subst hj'; simp [ho, hj]
      · simp [ho, hj]
    · simp [ho]

/-- The lanes of a set contribute, through "the running count at the last occurrence", the number of the set's lanes. -/
theorem sum_last {n : ℕ} (key : Fin n → ℕ) (b : ℕ) :
    (∑ k : Fin n, if (∀ j, k < j → ¬ key j = key k) ∧ key k = b
        then BitVec.ofNat 32 (Finset.univ.filter fun j => j ≤ k ∧ key j = key k).card else 0)
      = BitVec.ofNat 32 (Finset.univ.filter fun k : Fin n => key k = b).card := by
  classical
  set S := Finset.univ.filter fun k : Fin n => key k = b with hS
  by_cases hne : S.Nonempty
  · obtain ⟨K, hK, hmax⟩ : ∃ K ∈ S, ∀ k ∈ S, k ≤ K := ⟨S.max' hne, S.max'_mem hne, fun k hk => S.le_max' k hk⟩
    have hKb : key K = b := by simpa [hS] using hK
    rw [Finset.sum_eq_single K]
    · rw [if_pos]
      · congr 2
        ext j
        simp only [hS, Finset.mem_filter, Finset.mem_univ, true_and, hKb]
        exact ⟨fun h => h.2, fun h => ⟨hmax j (by simpa [hS] using h), h⟩⟩
      · refine ⟨fun j hj h => ?_, hKb⟩
        exact absurd (hmax j (by simpa [hS] using h.trans hKb)) (not_le.mpr hj)
    · intro k _ hk
      rw [if_neg]
      rintro ⟨hl, hb⟩
      have hkS : k ∈ S := by simpa [hS] using hb
      exact hl K (lt_of_le_of_ne (hmax k hkS) hk) (hKb.trans hb.symm)
    · intro h; exact absurd (Finset.mem_univ _) h
  · rw [Finset.not_nonempty_iff_eq_empty] at hne
    rw [hne, Finset.card_empty, Finset.sum_eq_zero]
    · rfl
    · intro k _
      rw [if_neg]
      rintro ⟨-, hb⟩
      have : k ∈ S := by simpa [hS] using hb
      rw [hne] at this; exact absurd this (Finset.notMem_empty _)

variable {F : FTy → Type} [FloatOps F]

/-- An index of a vector of `n` lanes is its lane. -/
def laneEquiv (n : ℕ) : Fin n ≃ (⟨1, ![n]⟩ : Shape).Idx where
  toFun k := Shape.ofLane (d := ![n]) k
  invFun x := x 0
  left_inv _ := rfl
  right_inv x := by funext a; obtain rfl := Subsingleton.elim a 0; rfl

/-- The masked adding scatter of the running counts of a vector of bins, at their last occurrences, adds to each cell the
    number of lanes that name it. -/
theorem storeIdx_scanCount {N n : ℕ} (f : Vec F ⟨1, ![N]⟩ .i32) (v : IVec ⟨1, ![n]⟩ 32) (mask : IVec ⟨1, ![n]⟩ 1) (hm : ∀ x, mask x = 1)
    (h : ∀ a x, ((![v] : Fin 1 → IVec ⟨1, ![n]⟩ 32) a x).toNat < (⟨1, ![N]⟩ : Shape).size a) (j : (⟨1, ![N]⟩ : Shape).Idx) :
    storeIdx f ![v] (scanCount mask v).2 (scanCount mask v).1 true h j
      = (show BitVec 32 from f j) + BitVec.ofNat 32 (Finset.univ.filter fun k : Fin n => (v (Shape.ofLane (d := ![n]) k)).toNat = (j 0).val).card := by
  classical
  unfold storeIdx
  have hidx : ∀ (k : Fin n) (j : (⟨1, ![N]⟩ : Shape).Idx),
      (∀ a, (j a).val = (idxAt ![v] h (Shape.ofLane (d := ![n]) k) a).val) ↔ j = idxAt ![v] h (Shape.ofLane (d := ![n]) k) :=
    fun k j => ⟨fun e => funext fun a => Fin.ext (e a), fun e a => by rw [e]⟩
  refine (foldl_add (K := Fin n) (I := (⟨1, ![N]⟩ : Shape).Idx) (List.finRange n) f
    (fun k j => ∀ a, (j a).val = (idxAt ![v] h (Shape.ofLane (d := ![n]) k) a).val)
    (fun k => (scanCount mask v).1 (Shape.ofLane (d := ![n]) k) = 1)
    (fun k => idxAt ![v] h (Shape.ofLane (d := ![n]) k)) hidx
    (fun k => (scanCount mask v).2 (Shape.ofLane (d := ![n]) k)) j).trans ?_
  congr 1
  rw [← sum_last (fun k : Fin n => (v (Shape.ofLane (d := ![n]) k)).toNat) (j 0).val, ← List.ofFn_eq_map, List.sum_ofFn]
  refine Finset.sum_congr rfl fun k _ => ?_
  have hpos : ∀ x : (⟨1, ![n]⟩ : Shape).Idx, ((⟨1, ![n]⟩ : Shape).rowMajor x).val = (x 0).val := fun x => Shape.rowMajor_val_one x
  have hlast : (scanCount mask v).1 (Shape.ofLane (d := ![n]) k) = 1
      ↔ ∀ j : Fin n, k < j → ¬ (v (Shape.ofLane (d := ![n]) j)).toNat = (v (Shape.ofLane (d := ![n]) k)).toNat := by
    unfold scanCount
    simp only [hm, hpos, true_and]
    rw [show ∀ P : Prop, ∀ [Decidable P], ((if P then (1 : BitVec 1) else 0) = 1 ↔ P) from fun P _ => by by_cases hP : P <;> simp [hP]]
    constructor
    · intro hl j hkj e
      exact hl (Shape.ofLane (d := ![n]) j) hkj (BitVec.eq_of_toNat_eq e)
    · intro hl x hx e
      have := hl (x 0) hx
      rw [show Shape.ofLane (d := ![n]) (x 0) = x from (laneEquiv n).right_inv x, e] at this
      exact this rfl
  have hcnt : (scanCount mask v).2 (Shape.ofLane (d := ![n]) k)
      = BitVec.ofNat 32 (Finset.univ.filter fun j : Fin n => j ≤ k ∧ (v (Shape.ofLane (d := ![n]) j)).toNat = (v (Shape.ofLane (d := ![n]) k)).toNat).card := by
    unfold scanCount
    simp only [hm, hpos, true_and, if_true]
    congr 1
    refine (Finset.card_bij (fun (j : Fin n) _ => laneEquiv n j) ?_ (fun _ _ _ _ e => (laneEquiv n).injective e) ?_).symm
    · intro j hj
      simp only [Finset.mem_filter, Finset.mem_univ, true_and] at hj ⊢
      exact ⟨hj.1, BitVec.eq_of_toNat_eq hj.2⟩
    · intro x hx
      simp only [Finset.mem_filter, Finset.mem_univ, true_and] at hx
      refine ⟨x 0, Finset.mem_filter.mpr ⟨Finset.mem_univ _, hx.1, ?_⟩, (laneEquiv n).right_inv x⟩
      rw [show Shape.ofLane (d := ![n]) (x 0) = x from (laneEquiv n).right_inv x, hx.2]
  rw [hcnt]
  refine if_congr (and_congr hlast ?_) rfl rfl
  constructor
  · intro e; exact (e 0).symm
  · intro e a; obtain rfl := Subsingleton.elim a 0; exact e.symm

/-- A histogram cell that holds the count of the first `n` pixels holds, after the scatter of the next vector's bins, the
    count of the first `n + w` pixels. -/
theorem storeIdx_count {N w : ℕ} (bin : ℕ → ℕ) (m : ℕ) (f : Vec F ⟨1, ![N]⟩ .i32) (v : IVec ⟨1, ![w]⟩ 32) (mask : IVec ⟨1, ![w]⟩ 1)
    (hm : ∀ x, mask x = 1) (h : ∀ a x, ((![v] : Fin 1 → IVec ⟨1, ![w]⟩ 32) a x).toNat < (⟨1, ![N]⟩ : Shape).size a)
    (hf : ∀ j, f j = BitVec.ofNat 32 (count bin m (j 0).val))
    (hv : ∀ x, (v x).toNat = bin (m + (x 0).val)) (j : (⟨1, ![N]⟩ : Shape).Idx) :
    storeIdx f ![v] (scanCount mask v).2 (scanCount mask v).1 true h j = BitVec.ofNat 32 (count bin (m + w) (j 0).val) := by
  rw [storeIdx_scanCount f v mask hm h j, hf j, count_add]
  show BitVec.ofNat 32 _ + _ = _
  rw [← BitVec.ofNat_add]
  congr 3
  ext k
  simp only [Finset.mem_filter, Finset.mem_univ, true_and]
  rw [hv]; rfl

/-! ## A pixel's bin -/

/-- The bin of a pixel of predicted class `p` and true class `t`, as the words compute it. -/
def binWord (p t : BitVec 32) : BitVec 32 := t * 160#32 + p

/-- Of two classes below 150 the word is the number `160 t + p`. -/
theorem binWord_toNat {p t : BitVec 32} (hp : p.toNat < 150) (ht : t.toNat < 150) : (binWord p t).toNat = t.toNat * 160 + p.toNat := by
  unfold binWord
  rw [BitVec.toNat_add, BitVec.toNat_mul]
  simp only [BitVec.toNat_ofNat]
  rw [Nat.mod_eq_of_lt (a := t.toNat * (160 % 2 ^ 32)) (by omega)]
  omega

end Cert.Proof.Histogram

end
-- ==== Proof.Classes.lean ====
/-
  The precondition read: when the conjunction of the four bounds over both arrays is true, every class of either array, as an
  unsigned word, is below 150.
-/
module

public import proofs.«01_k».proof.Pre_classes
public import Idealize.ShloMosaic.Lib.ReduceAll
public import Idealize.ShloMosaic.Lib.Tactic

@[expose] public section

noncomputable section

namespace Cert.Proof.Classes

open Idealize.ShloMosaic Cert.Pre_classes

variable [Cert.Pre_classes.Facts]

/-- A signed word that is at least 0 and less than 150 is below 150 as an unsigned one. -/
theorem below_of_bounds {v : BitVec 32} (h0 : IntOp.cmpi .sge v 0#32 = 1#1) (h1 : IntOp.cmpi .slt v 150#32 = 1#1) : v.toNat < 150 := by
  have ofBool_eq_one (p : Bool) : (BitVec.ofBool p = 1#1) ↔ p = true := by cases p <;> decide
  simp only [IntOp.cmpi, ofBool_eq_one, BitVec.sle_eq_decide, BitVec.slt_eq_decide,
    decide_eq_true_eq, BitVec.toInt_eq_toNat_cond, BitVec.toNat_ofNat, Nat.reducePow, Nat.reduceMod] at h0 h1
  omega

theorem and_one {x y : BitVec 1} (h : IntOp.andi x y = 1#1) : x = 1#1 ∧ y = 1#1 := by
  revert h; revert x y; decide

/-- The precondition bounds every element of both arrays. -/
theorem of_pre {F : FTy → Type} [FloatOps F] (a b : IVec S8x512x512 32) (h : Cert.Pre_classes.fn (F := F) a b = fun _ => 1#1) :
    (∀ i, (a i).toNat < 150) ∧ ∀ i, (b i).toNat < 150 := by
  have e := congrFun h (fun k => k.elim0)
  dsimp only [Cert.Pre_classes.fn] at e
  obtain ⟨e, h4⟩ := and_one e
  obtain ⟨e, h3⟩ := and_one e
  obtain ⟨h1, h2⟩ := and_one e
  haveI : Subsingleton S_.Idx := ⟨fun _ _ => funext fun k => k.elim0⟩
  exact ⟨fun i => below_of_bounds (Host.reduce_andi_all _ _ _ _ _ h1 i) (Host.reduce_andi_all _ _ _ _ _ h2 i),
    fun i => below_of_bounds (Host.reduce_andi_all _ _ _ _ _ h3 i) (Host.reduce_andi_all _ _ _ _ _ h4 i)⟩

end Cert.Proof.Classes

end
-- ==== Proof.TileIdeal.lean ====
/-
  One tile's histogram. A vector subcore of the launch — SparseCore `L 0`, subcore `L 1`, tile number `2 (L 1) + (L 0)` —
  zeroes its 24000 bins, fetches its 65536 pixels in eight chunks, counts them sixteen at a time (the bins `160 t + p`, the
  running counts, the masked adding scatter) and writes its bins to its own row of the 32 × 24000 result. Stated at a symbolic
  pair and at any float values: the tile reads the two pixel arrays through a share of each and leaves in its row the number of
  its pixels per bin.
-/
module

public import proofs.«01_k».proof.Defs
public import proofs.«01_k».proof.Proof.Histogram
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.WritesUnit
public import Idealize.ShloMosaic.Lib.ViewIndex

@[expose] public section

noncomputable section

namespace Cert.Proof.KernelIdeal

open Cert.KernelIdeal Cert.KernelIdeal.Gen Cert.Proof.Histogram

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelined call's rounds, the transfers' counters -/

abbrev UH : Type := URounds (GSem nD τ sig) ℕ
abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL

/-! ## Arrays and memrefs -/

abbrev pLoc (d : Dev nD) : Loc nD τ sig := (SparseCore.T d).loc main_v0
abbrev tLoc (d : Dev nD) : Loc nD τ sig := (SparseCore.T d).loc main_v1
abbrev oLoc (d : Dev nD) : Loc nD τ sig := (SparseCore.T d).loc main_v2

local notation "pW" => (Memref.whole Cert.KernelIdeal.main_v0_scv : Memref Cert.KernelIdeal.sig Kind.scVector Space.hbm Cert.KernelIdeal.S2097152 EltTy.i32)
local notation "tW" => (Memref.whole Cert.KernelIdeal.main_v1_scv : Memref Cert.KernelIdeal.sig Kind.scVector Space.hbm Cert.KernelIdeal.S2097152 EltTy.i32)
local notation "oW" => (Memref.whole Cert.KernelIdeal.main_v2_scv : Memref Cert.KernelIdeal.sig Kind.scVector Space.hbm Cert.KernelIdeal.S32x24000 EltTy.i32)
local notation "sP" => (Memref.whole Cert.KernelIdeal.cc0_scratch0 : Memref Cert.KernelIdeal.sig Kind.scVector Space.vmem Cert.KernelIdeal.S8192 EltTy.i32)
local notation "sT" => (Memref.whole Cert.KernelIdeal.cc0_scratch1 : Memref Cert.KernelIdeal.sig Kind.scVector Space.vmem Cert.KernelIdeal.S8192 EltTy.i32)
local notation "sH" => (Memref.whole Cert.KernelIdeal.cc0_scratch2 : Memref Cert.KernelIdeal.sig Kind.scVector Space.vmem Cert.KernelIdeal.S24000 EltTy.i32)

/-! ## What the tiles count -/

/-- The flat index of pixel `x` (pixel 0 past the end). -/
def pixIdx (x : ℕ) : S2097152.Idx := fun a => ⟨if x < 2097152 then x else 0, by
  obtain rfl := Subsingleton.elim a 0; show _ < 2097152; split <;> omega⟩

/-- The bin of pixel `x` of predicted classes `p` and true classes `t`. -/
def pixBin (p t : S2097152.Idx → BitVec 32) (x : ℕ) : ℕ := (binWord (p (pixIdx x)) (t (pixIdx x))).toNat

/-- The bin of pixel `x` of tile `w`. -/
def tileBin (p t : S2097152.Idx → BitVec 32) (w x : ℕ) : ℕ := pixBin p t (w * 65536 + x)

/-- The tiles' counts: entry `(w, b)` is the number of tile `w`'s pixels of bin `b`. -/
def tileCounts (p t : S2097152.Idx → BitVec 32) : S32x24000.Idx → BitVec 32 :=
  fun j => BitVec.ofNat 32 (count (tileBin p t (j 0).val) 65536 (j 1).val)

/-- Both classes of every pixel are below 150. -/
def Classes (p t : S2097152.Idx → BitVec 32) : Prop := (∀ j, (p j).toNat < 150) ∧ ∀ j, (t j).toNat < 150

/-! ## The tile -/

section Tile

variable (d : Dev nD) (L : grid0.Coords)

abbrev cV (L : grid0.Coords) : Fin τ.nSC := (L 0).castLE hcore0
abbrev jV (L : grid0.Coords) : Fin τ.nSub := (L 1).castLE hsub0
abbrev thr : Thread nD τ := V d (cV L) (jV L)

/-- The tile's number. -/
abbrev wid (L : grid0.Coords) : ℕ := 2 * (L 1).val + (L 0).val

theorem wid_lt : wid L < 32 := by
  have h0 : (L 0).val < 2 := (L 0).isLt
  have h1 : (L 1).val < 16 := (L 1).isLt
  unfold wid; omega

/-- The tile's row of the result, as the kernel slices and squeezes it. -/
abbrev rowK (L : grid0.Coords) : Rect S32x24000 := Rect.unit (s := S32x24000) (k0_off4 L) S1x24000.size (k0_off4_inb L)
abbrev oRow (L : grid0.Coords) : Memref sig .scVector .hbm S24000 .i32 :=
  ((oW).slice (rowK L) (fun _ => rfl)).squeeze S24000 squeezes_S1x24000_S24000

abbrev cA (d : Dev nD) (L : grid0.Coords) : GSem nD τ sig := (thr d L, .dma cc0_scoped0.sem)
abbrev cB (d : Dev nD) (L : grid0.Coords) : GSem nD τ sig := (thr d L, .dma cc0_scoped1.sem)
abbrev cC (d : Dev nD) (L : grid0.Coords) : GSem nD τ sig := (thr d L, .dma cc0_scoped2.sem)

theorem ownSems0_V :
    (ownSems0 (thr d L) : sProp 𝕄)
      = iprop(semVal (cA d L) 0 ∗ semVal (cB d L) 0 ∗ semVal (cC d L) 0
          ∗ bigSep ((((ownCells (thr d L)).erase (cA d L)).erase (cB d L)).erase (cC d L)) fun g => semVal g 0) := by
  unfold SparseCore.Cfg.ownSems0
  rw [SparseCore.bigSep_erase' ((mem_ownCells (g := cA d L)).mpr ⟨rfl, by
      show (SemLoc.dma cc0_scoped0.sem : SemLoc sig).isScoped .scVector = true; decide⟩),
    SparseCore.bigSep_erase' (Finset.mem_erase.mpr ⟨by simp [cA, cB]; decide, (mem_ownCells (g := cB d L)).mpr ⟨rfl, by
      show (SemLoc.dma cc0_scoped1.sem : SemLoc sig).isScoped .scVector = true; decide⟩⟩),
    SparseCore.bigSep_erase' (Finset.mem_erase.mpr ⟨by simp [cB, cC]; decide, Finset.mem_erase.mpr ⟨by simp [cA, cC]; decide,
      (mem_ownCells (g := cC d L)).mpr ⟨rfl, by show (SemLoc.dma cc0_scoped2.sem : SemLoc sig).isScoped .scVector = true; decide⟩⟩⟩)]

/-- The three scratch buffers are among the tile's own: they, at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

/-! ### The pure steps -/

theorem k0_t1_trips : k0_t1_loop.trips = 1500 := by decide +kernel
theorem k0_t2_trips : k0_t2_loop.trips = 8 := by decide +kernel
theorem k0_t3_trips : k0_t3_loop.trips = 512 := by decide +kernel

abbrev HBuf (F : FTy → Type) (d : Dev nD) (L : grid0.Coords) : Type := Buf (Elt F) ((thr d L).loc cc0_scratch2)

/-- The first `16 k` bins are zero. -/
def Zeroed (k : ℕ) (f : S24000.Idx → BitVec 32) : Prop := ∀ j : S24000.Idx, (j 0).val < 16 * k → f j = 0#32

/-- The bins hold the counts of the tile's first `n` pixels. -/
def Counted (p t : S2097152.Idx → BitVec 32) (w n : ℕ) (f : S24000.Idx → BitVec 32) : Prop :=
  ∀ j : S24000.Idx, f j = BitVec.ofNat 32 (count (tileBin p t w) n (j 0).val)

/-- A scratch holds chunk `c` of tile `w`'s pixels of the array `p`. -/
def Chunk (p : S2097152.Idx → BitVec 32) (w c : ℕ) (f : S8192.Idx → BitVec 32) : Prop :=
  ∀ j : S8192.Idx, f j = p (pixIdx (w * 65536 + (8192 * c + (j 0).val)))

theorem zeroed_all {f : S24000.Idx → BitVec 32} (h : Zeroed k0_t1_loop.trips f) (p t : S2097152.Idx → BitVec 32) (w : ℕ) : Counted p t w 0 f :=
  fun j => by rw [count_zero]; exact h j (by rw [k0_t1_trips]; exact (j 0).isLt)

theorem zeroed_step {k : Fin k0_t1_loop.trips} {f : S24000.Idx → BitVec 32} (h : Zeroed k f) :
    Zeroed (k + 1) ((sH).view.writes (Elt F) f [⟨Rect.unit (s := S24000) (k0_off1 k) S16.size (k0_off1_inb k), k0_pay1⟩]) := by
  intro j hj
  refine (show (sH).view.read (Elt F) ((sH).view.writes (Elt F) f [⟨Rect.unit (s := S24000) (k0_off1 k) S16.size (k0_off1_inb k), k0_pay1⟩]) j = 0#32 from ?_)
  by_cases hlt : (j 0).val < 16 * k.val
  · rw [View.read_writes_cons_unit_of_not_mem (heq := k0_off1_eq k) (a := 0) (ha := .inl hlt)]
    exact h j hlt
  · let x : S16.Idx := fun a => ⟨(j 0).val - 16 * k.val, by obtain rfl := Subsingleton.elim a 0; show _ < 16; omega⟩
    rw [View.read_writes_cons_unit_of_mem (heq := k0_off1_eq k) (x := x)
      (hx := fun (a : Fin 1) => by obtain rfl := Subsingleton.elim a 0; show (j 0).val = 16 * k.val + ((j 0).val - 16 * k.val); omega)]
    rfl

theorem chunk_fetch_p (c : Fin k0_t2_loop.trips) (p : S2097152.Idx → BitVec 32) (f : S8192.Idx → BitVec 32) :
    Chunk p (wid L) c ((sP).view.write (Elt F) f (((pW).slice (Rect.unit (s := S2097152) (k0_off2 L c) S8192.size (k0_off2_inb L c)) (fun _ => rfl)).view.read (Elt F) p) Finset.univ) := by
  intro j
  refine (congrFun (View.write_whole_univ (Val := Elt F) cc0_scratch0 f _) j).trans ?_
  show p _ = p _
  refine congrArg p (funext fun (a : Fin 1) => Fin.ext ?_)
  obtain rfl := Subsingleton.elim a 0
  have hw := wid_lt L
  have hc : c.val < 8 := k0_t2_trips ▸ c.isLt
  have hj : (j 0).val < 8192 := (j 0).isLt
  show (k0_off2 L c) 0 + 1 * (j 0).val = if _ then _ else _
  rw [k0_off2_eq, if_pos (by omega)]
  show 131072 * (L 1).val + 65536 * (L 0).val + 8192 * c.val + 1 * (j 0).val = (2 * (L 1).val + (L 0).val) * 65536 + (8192 * c.val + (j 0).val)
  omega

theorem chunk_fetch_t (c : Fin k0_t2_loop.trips) (p : S2097152.Idx → BitVec 32) (f : S8192.Idx → BitVec 32) :
    Chunk p (wid L) c ((sT).view.write (Elt F) f (((tW).slice (Rect.unit (s := S2097152) (k0_off2 L c) S8192.size (k0_off2_inb L c)) (fun _ => rfl)).view.read (Elt F) p) Finset.univ) :=
  fun j => (congrFun (View.write_whole_univ (Val := Elt F) cc0_scratch1 f _) j).trans
    ((congrFun (View.write_whole_univ (Val := Elt F) cc0_scratch0 f _) j).symm.trans (chunk_fetch_p (F := F) L c p f j))

/-- The sixteen bins of vector `k` of chunk `c`. -/
abbrev lanes (k : Fin k0_t3_loop.trips) (gP gT : S8192.Idx → BitVec 32) : IVec S16 32 :=
  k0_pay2 (F := F) ((sP).view.readAt (Elt F) (Rect.unit (s := S8192) (k0_off3 k) S16.size (k0_off3_inb k)).toLoadRect gP)
    ((sT).view.readAt (Elt F) (Rect.unit (s := S8192) (k0_off3 k) S16.size (k0_off3_inb k)).toLoadRect gT)

theorem lanes_toNat {p t : S2097152.Idx → BitVec 32} {w c : ℕ} {gP gT : S8192.Idx → BitVec 32} (hP : Chunk p w c gP) (hT : Chunk t w c gT)
    (k : Fin k0_t3_loop.trips) (x : S16.Idx) : (lanes (F := F) k gP gT x).toNat = tileBin p t w (8192 * c + 16 * k.val + (x 0).val) := by
  have hx : (x 0).val < 16 := (x 0).isLt
  have hk : k.val < 512 := k0_t3_trips ▸ k.isLt
  let y : S8192.Idx := fun a => ⟨16 * k.val + (x 0).val, by obtain rfl := Subsingleton.elim a 0; show _ < 8192; omega⟩
  have e : (Rect.unit (s := S8192) (k0_off3 k) S16.size (k0_off3_inb k)).emb x = y := by
    funext a; refine Fin.ext ?_; obtain rfl := Subsingleton.elim a 0
    show (k0_off3 k) 0 + 1 * (x 0).val = 16 * k.val + (x 0).val
    rw [k0_off3_eq]; show 16 * k.val + 1 * (x 0).val = _; omega
  show (gT ((Rect.unit (s := S8192) (k0_off3 k) S16.size (k0_off3_inb k)).emb x) * 160#32 + gP ((Rect.unit (s := S8192) (k0_off3 k) S16.size (k0_off3_inb k)).emb x)).toNat = _
  rw [e, hP y, hT y]
  unfold tileBin pixBin binWord
  rw [show w * 65536 + (8192 * c + (y 0).val) = w * 65536 + (8192 * c + 16 * k.val + (x 0).val) by
    show _ + (_ + (16 * k.val + (x 0).val)) = _; omega]

theorem lanes_chk {p t : S2097152.Idx → BitVec 32} {w c : ℕ} {gP gT : S8192.Idx → BitVec 32} (hpt : Classes p t) (hP : Chunk p w c gP) (hT : Chunk t w c gT)
    (k : Fin k0_t3_loop.trips) : k0_chk1 (lanes (F := F) k gP gT) := by
  intro a x
  obtain rfl := Subsingleton.elim a 0
  show (lanes (F := F) k gP gT x).toNat < 24000
  rw [lanes_toNat hP hT]
  unfold tileBin pixBin
  rw [binWord_toNat (hpt.1 _) (hpt.2 _)]
  have h1 := hpt.1 (pixIdx (w * 65536 + (8192 * c + 16 * k.val + (x 0).val)))
  have h2 := hpt.2 (pixIdx (w * 65536 + (8192 * c + 16 * k.val + (x 0).val)))
  omega

theorem counted_step [FloatOps F] {p t : S2097152.Idx → BitVec 32} {w c : ℕ} {gP gT : S8192.Idx → BitVec 32} {g : S24000.Idx → BitVec 32} (hP : Chunk p w c gP) (hT : Chunk t w c gT)
    (k : Fin k0_t3_loop.trips) (hg : Counted p t w (8192 * c + 16 * k.val) g) (h : k0_chk1 (lanes (F := F) k gP gT)) :
    Counted p t w (8192 * c + 16 * (k.val + 1))
      (((sH).access (.whole S24000)).write (Elt F) g
        (storeIdx (((sH).access (.whole S24000)).read (Elt F) g) ![lanes (F := F) k gP gT] (k0_pay5 (lanes (F := F) k gP gT)) (k0_pay4 (lanes (F := F) k gP gT)) true h) Finset.univ) := by
  intro j
  rw [show ((sH).access (.whole S24000)).write (Elt F) g _ Finset.univ = _ from Memref.write_access_whole_univ (Elt F) cc0_scratch2 g _,
    show ((sH).access (.whole S24000)).read (Elt F) g = g from Memref.read_access_whole (Elt F) cc0_scratch2 g]
  exact storeIdx_count (tileBin p t w) (8192 * c + 16 * k.val) g (lanes (F := F) k gP gT) k0_pay3 (fun _ => rfl) h hg (lanes_toNat hP hT k) j

/-- Entry `b` of the tile's row is the row's entry `(wid, b)` of the result. -/
theorem oRow_emb (b : S24000.Idx) (j : S32x24000.Idx) (h0 : (j 0).val = wid L) (h1 : (j 1).val = (b 0).val) : (oRow L).view.emb b = j := by
  let y : S1x24000.Idx := fun | ⟨0, _⟩ => ⟨0, Nat.one_pos⟩ | ⟨1, _⟩ => b 0
  have e : Shape.reshapeEquiv (s := S1x24000) (s' := S24000) (by decide) b = y :=
    Shape.reshapeEquiv_eq_of_rowMajor _ (by
      rw [Shape.rowMajor_val_two, Shape.rowMajor_val_one]; show 0 * 24000 + (b 0).val = (b 0).val; omega)
  show (rowK L).emb (Shape.reshapeEquiv (s := S1x24000) (s' := S24000) _ b) = j
  rw [e]
  funext a; refine Fin.ext ?_
  show k0_off4 L a + 1 * (y a).val = (j a).val
  rw [k0_off4_eq]
  match a with
  | ⟨0, _⟩ => show 2 * (L 1).val + (L 0).val + 1 * 0 = (j 0).val; rw [h0]; rfl
  | ⟨1, _⟩ => show 0 + 1 * (b 0).val = (j 1).val; rw [h1]; omega

theorem row_counts (p t : S2097152.Idx → BitVec 32) (f₀ : S32x24000.Idx → BitVec 32) (g : S24000.Idx → BitVec 32) (hg : Counted p t (wid L) 65536 g) :
    ∀ j ∈ (oRow L).view.set, ((oRow L).view.writes (Elt F) f₀ [⟨Rect.whole S24000, g⟩]) j = tileCounts p t j := by
  intro j hj
  obtain ⟨b, -, rfl⟩ := Finset.mem_map.mp hj
  have h1 : ((oRow L).view.slice (Rect.whole S24000)).emb b = (oRow L).view.emb b := by
    show (oRow L).view.emb ((Rect.whole S24000).emb b) = _; rw [Rect.emb_whole_apply]
  let j : S32x24000.Idx := fun | ⟨0, _⟩ => ⟨wid L, wid_lt L⟩ | ⟨1, _⟩ => b 0
  have hj : (oRow L).view.emb b = j := oRow_emb L b j rfl rfl
  have h2 := View.write_emb_of_mem (v := (oRow L).view.slice (Rect.whole S24000)) (Val := Elt F) f₀ g (M := Finset.univ) (x := b) (Finset.mem_univ b)
  rw [h1] at h2
  refine h2.trans ?_
  rw [hj]
  exact hg b

/-! ### The buffers as the executor reads them -/

theorem pts_p {q : PosShare TreeShare} (f : Buf (Elt F) (pLoc d)) :
    ((pW).view.loc (thr d L) ↦{q} f : sProp 𝕄) = pLoc d ↦{q} f := by
  simp only [Memref.view_whole, View.set_whole]
theorem pts_t {q : PosShare TreeShare} (f : Buf (Elt F) (tLoc d)) :
    ((tW).view.loc (thr d L) ↦{q} f : sProp 𝕄) = tLoc d ↦{q} f := by
  simp only [Memref.view_whole, View.set_whole]

theorem pts_h (f : Buf (Elt F) ((thr d L).loc cc0_scratch2)) :
    (((sH).access (.whole S24000)).loc (thr d L) ↦[((sH).access (.whole S24000)).set]{fullShare} f : sProp 𝕄)
      = (sH).view.loc (thr d L) ↦{fullShare} f := by
  rw [show ((sH).access (.whole S24000)).set = Finset.univ from Memref.set_access_whole cc0_scratch2]
theorem pts_o (f : Buf (Elt F) (oLoc d)) :
    ((oRow L).view.loc (thr d L) ↦[(oRow L).view.set]{fullShare} f : sProp 𝕄) = oLoc d ↦[(oRow L).view.set]{fullShare} f := rfl

variable [FloatOps F]

/-- The zeroing loop's invariant: the bins, the first `16 k` zero. -/
def inv1 (k : ℕ) (_ : BitVec 32) : sProp 𝕄 :=
  iprop(∃ f : HBuf F d L, ⌜Zeroed k f⌝ ∗ (sH).view.loc (thr d L) ↦{fullShare} f)

/-- The counting loop's invariant inside a chunk: the two scratches at the chunk, the bins at the counts of the pixels before
    vector `k` of the chunk. -/
def inv3 (p : Buf (Elt F) (pLoc d)) (t : Buf (Elt F) (tLoc d)) (c : ℕ) (fP : Buf (Elt F) ((thr d L).loc cc0_scratch0)) (fT : Buf (Elt F) ((thr d L).loc cc0_scratch1))
    (k : ℕ) (_ : BitVec 32) : sProp 𝕄 :=
  iprop(((sP).view.loc (thr d L) ↦{fullShare} fP) ∗ ((sT).view.loc (thr d L) ↦{fullShare} fT)
    ∗ ∃ f : HBuf F d L, ⌜Counted p t (wid L) (8192 * c + 16 * k) f⌝ ∗ (sH).view.loc (thr d L) ↦{fullShare} f)

/-- The chunk loop's invariant: the pixel arrays at their share, the scratches, the bins at the counts of the pixels before
    chunk `k`, the two semaphores at zero, the waits so far. -/
def inv2 (p : Buf (Elt F) (pLoc d)) (t : Buf (Elt F) (tLoc d)) (q : PosShare TreeShare) (O : CellTallies nD τ sig (HIx 1)) (W : Waits sig (HIx 1))
    (k : ℕ) (_ : BitVec 32) : sProp 𝕄 :=
  iprop(Transfers.MayWaits (thr d L) (none : HIx 1) O
    ∗ ((pW).view.loc (thr d L) ↦{q} p) ∗ ((tW).view.loc (thr d L) ↦{q} t)
    ∗ (∃ f, (sP).view.loc (thr d L) ↦{fullShare} f) ∗ (∃ f, (sT).view.loc (thr d L) ↦{fullShare} f)
    ∗ (∃ f : HBuf F d L, ⌜Counted p t (wid L) (8192 * k) f⌝ ∗ (sH).view.loc (thr d L) ↦{fullShare} f)
    ∗ semVal (cA d L) 0 ∗ semVal (cB d L) 0
    ∗ ∃ W', ⌜∀ p ∈ W', p ∈ W ∨ p.2 = none⌝ ∗ owes (thr d L) O W')

theorem body (p : Buf (Elt F) (pLoc d)) (t : Buf (Elt F) (tLoc d)) (f₀ : Buf (Elt F) (oLoc d)) (q : PosShare TreeShare) (hpt : Classes p t)
    (O : CellTallies nD τ sig (HIx 1)) (W : Waits sig (HIx 1)) (hO : ∀ g, O g none = 0) :
    iprop((levAts (K (F := F)).L (K (F := F)).lev : sProp 𝕄)
        ∗ ((pLoc d ↦{q} p) ∗ (tLoc d ↦{q} t) ∗ oLoc d ↦[(oRow L).view.set]{fullShare} f₀)
        ∗ scopedBufs (thr d L) ∗ scopedSems0 (thr d L) ∗ owes (thr d L) O W)
      ⊢ wp frame (wpE (defs₀ (F := F)) 𝒱₀ (thr d L) none) Set.univ
          (cc0__hist_body L pW (Memref.isWhole_whole _) tW (Memref.isWhole_whole _) oW (Memref.isWhole_whole _)
            sP (Memref.isWhole_whole _) sT (Memref.isWhole_whole _) sH (Memref.isWhole_whole _) cc0_scoped0 cc0_scoped1 cc0_scoped2)
          fun _ => iprop(((pLoc d ↦{q} p) ∗ (tLoc d ↦{q} t) ∗ oLoc d ↦[(oRow L).view.set]{fullShare} tileCounts p t)
            ∗ scopedBufs (thr d L) ∗ scopedSems0 (thr d L)
            ∗ ∃ W', ⌜∀ p ∈ W', p ∈ W ∨ p.2 = none⌝ ∗ owes (thr d L) O W') := by
  simp only [cc0__hist_body_eq_skeleton]; unfold cc0__hist_body_skel
  rw [(K (F := F)).scopedBufs_V facts d (cV L) (jV L), SparseCore.Cfg.scopedSems0_V (Val := Elt F) d (cV L) (jV L), ownSems0_V, ownBufs_V]
  iintro ⟨#Hlv, ⟨Hp, Ht, Ho⟩, ⟨⟨%fP, HsP⟩, ⟨%fT, HsT⟩, ⟨%fH, HsH⟩, Hbufs⟩, ⟨HsemA, HsemB, HsemC, Hsems⟩, HO⟩
  ihave Hmw := ((K (F := F)).mayWaits_none (thr := thr d L) hO) $$ Hlv
  ihave Hp' := (Entails.of_eq (pts_p (F := F) d L _).symm) $$ Hp
  ihave Ht' := (Entails.of_eq (pts_t (F := F) d L _).symm) $$ Ht
  ihave Ho' := (Entails.of_eq (pts_o (F := F) d L _).symm) $$ Ho
  sl_exec
  sl_for (inv1 (F := F) d L) $$ [HsH]
  case region =>
    intro k _
    unfold inv1
    iintro ⟨%f, %hf, HsH⟩
    sl_exec
    sl_step
    iexists _; isplitr
    · ipureintro; exact zeroed_step (F := F) hf
    · iexact HsH
  · unfold inv1
    iexists fH; isplitr
    · ipureintro; intro j hj; exact absurd hj (by omega)
    · iexact HsH
  iintro %_ HI
  unfold inv1
  icases HI with ⟨%fH0, %hfH0, HsH⟩
  sl_exec
  sl_for (inv2 (F := F) d L p t q O W) $$ [Hmw Hp' Ht' HsP HsT HsH HsemA HsemB HO]
  case region =>
    intro c _
    unfold inv2
    iintro ⟨Hmw, Hp, Ht, ⟨%fP, HsP⟩, ⟨%fT, HsT⟩, ⟨%f, %hf, HsH⟩, HsemA, HsemB, %W', %hW', HO⟩
    sl_exec (disch := exact View.amount_pos _ _ (show 0 < S8192.numel by decide))
    have hP : Chunk p (wid L) c ((sP).view.write (Elt F) fP (body.sl.dma0 d L p c) Finset.univ) := chunk_fetch_p (F := F) L c p fP
    have hT : Chunk t (wid L) c ((sT).view.write (Elt F) fT (body.sl.dma0_1 d L t c) Finset.univ) := chunk_fetch_t (F := F) L c t fT
    generalize (sP).view.write (Elt F) fP (body.sl.dma0 d L p c) Finset.univ = gP at hP ⊢
    generalize (sT).view.write (Elt F) fT (body.sl.dma0_1 d L t c) Finset.univ = gT at hT ⊢
    sl_for (inv3 (F := F) d L p t c gP gT) $$ [HsP HsT HsH]
    case region =>
      intro k _
      unfold inv3
      iintro ⟨HsP, HsT, %g, %hg, HsH⟩
      sl_exec
      have hchk : k0_chk1 (body.sl.v21 gP gT k) := lanes_chk (F := F) hpt hP hT k
      rw [wp_assume_of _ _ _ _ hchk]
      ihave HsH' := (Entails.of_eq (pts_h (F := F) d L _).symm) $$ HsH
      iapply (SparseCore.wp_vectorStoreIdx 𝒱₀ (thr d L) none Set.univ (base := sH)) $$ HsH'; iintro HsH
      ihave HsH := (Entails.of_eq (pts_h (F := F) d L _)) $$ HsH
      sl_step
      isplitl [HsP]; · iexact HsP
      isplitl [HsT]; · iexact HsT
      iexists _; isplitr
      · ipureintro; exact counted_step (F := F) hP hT k hg hchk
      · iexact HsH
    · unfold inv3
      isplitl [HsP]; · iexact HsP
      isplitl [HsT]; · iexact HsT
      iexists f; isplitr
      · ipureintro; simpa using hf
      · iexact HsH
    iintro %_ HI
    unfold inv3
    icases HI with ⟨HsP, HsT, %g, %hg, HsH⟩
    sl_exec
    sl_step
    isplitl [Hmw]; · iexact Hmw
    isplitl [Hp]; · iexact Hp
    isplitl [Ht]; · iexact Ht
    isplitl [HsP]; · iexists gP; iexact HsP
    isplitl [HsT]; · iexists gT; iexact HsT
    isplitl [HsH]
    · iexists g; isplitr
      · ipureintro; rwa [show 8192 * (c.val + 1) = 8192 * c.val + 16 * k0_t3_loop.trips by rw [k0_t3_trips]; omega]
      · iexact HsH
    isplitl [HsemA]; · iexact HsemA
    isplitl [HsemB]; · iexact HsemB
    iexists (insert (SemLoc.dma cc0_scoped1.sem, (default : HIx 1)) (insert (SemLoc.dma cc0_scoped0.sem, (default : HIx 1)) W')); isplitr
    · ipureintro; intro p hp
      rcases Finset.mem_insert.mp hp with hp | hp
      · exact .inr (hp ▸ rfl)
      rcases Finset.mem_insert.mp hp with hp | hp
      · exact .inr (hp ▸ rfl)
      · exact hW' p hp
    · iexact HO
  · unfold inv2
    isplitl [Hmw]; · iexact Hmw
    isplitl [Hp']; · iexact Hp'
    isplitl [Ht']; · iexact Ht'
    isplitl [HsP]; · iexists fP; iexact HsP
    isplitl [HsT]; · iexists fT; iexact HsT
    isplitl [HsH]
    · iexists fH0; isplitr
      · ipureintro; exact zeroed_all hfH0 p t (wid L)
      · iexact HsH
    isplitl [HsemA]; · iexact HsemA
    isplitl [HsemB]; · iexact HsemB
    iexists W; isplitr
    · ipureintro; exact fun p hp => .inl hp
    · iexact HO
  iintro %_ HI
  unfold inv2
  icases HI with ⟨-, Hp, Ht, ⟨%fP1, HsP⟩, ⟨%fT1, HsT⟩, ⟨%fH1, %hfH1, HsH⟩, HsemA, HsemB, %W1, %hW1, HO⟩
  sl_exec (disch := exact View.amount_pos _ _ (show 0 < S24000.numel by decide))
  have hfin : Counted p t (wid L) 65536 fH1 := by
    have e : 8192 * k0_t2_loop.trips = 65536 := by rw [k0_t2_trips]
    exact e ▸ hfH1
  sl_step
  isplitl [Hp Ht Ho']
  · isplitl [Hp]; · iapply (Entails.of_eq (pts_p (F := F) d L _)); iexact Hp
    isplitl [Ht]; · iapply (Entails.of_eq (pts_t (F := F) d L _)); iexact Ht
    iapply (Entails.of_eq ((pts_o (F := F) d L _).trans (pointsTo_congr (row_counts (F := F) L p t f₀ fH1 hfin)))); iexact Ho'
  isplitl [HsP HsT HsH Hbufs]
  · isplitl [HsP]; · iexists _; iexact HsP
    isplitl [HsT]; · iexists _; iexact HsT
    isplitl [HsH]; · iexists _; iexact HsH
    iexact Hbufs
  isplitl [HsemA HsemB HsemC Hsems]
  · isplitl [HsemA]; · iexact HsemA
    isplitl [HsemB]; · iexact HsemB
    isplitl [HsemC]; · iexact HsemC
    iexact Hsems
  iexists (insert (SemLoc.dma cc0_scoped2.sem, (default : HIx 1)) W1); isplitr
  · ipureintro; intro p hp
    rcases Finset.mem_insert.mp hp with hp | hp
    · exact .inr (hp ▸ rfl)
    · exact hW1 p hp
  · iexact HO

end Tile

end Cert.Proof.KernelIdeal

end
-- ==== Proof.MetricsIdeal.lean ====
/-
  The TensorCore's call. The kernel has one point and two windows, each a whole array: it loads the 32 tiles' counts as a
  32 × 150 × 160 array, computes the three metrics and stores them as the first lanes of a 1 × 128 row. Stated here: the body
  from any contents, the pipeline's proof data at given contents of the two arrays, and the region as @main enters and leaves it,
  with the row at the body's payload and every pair of semaphore and index the core has recorded still below the stage the core
  is at.
-/
module

public import proofs.«01_k».proof.Proof.TileIdeal
public import Idealize.ShloMosaic.Lib.Pipeline.RegionsLoop
public import Idealize.ShloMosaic.Lib.Pipeline.ValueKit.Geometry

@[expose] public section

noncomputable section

namespace Cert.Proof.KernelIdeal

open Cert.KernelIdeal Cert.KernelIdeal.Gen Cert.Proof.Histogram

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-- The row the kernel stores, from the counts it loads. -/
def metricsOf (x : Vec F S32x150x160 .i32) : Vec F S1x128 .f32 :=
  k1_pay1 (k1_pay4 x) (k1_pay8 x) (k1_pay9 x) (k1_pay10 x)

/-! ## The body -/

abbrev mIn (t : Fin cfg1.N) := (cfg1.win 0).stage (cfg1.slots t 0)

/-- A TensorCore memref's buffer held whole at `f`. -/
abbrev mPt (c : Dev nD) {sp : Space} {S : Shape} {e : EltTy} (M : Memref sig .tc sp S e) (f : Buf (Elt F) (M.view.loc (c : Thread nD τ))) : sProp 𝕄 :=
  M.view.loc (c : Thread nD τ) ↦{fullShare} f

/-- A load of the whole staging buffer reads its contents. -/
theorem metrics_load (c : Dev nD) (f0 : Buf (Elt F) ((stage1_0 0).view.loc (c : Thread nD τ))) :
    View.readAt (Elt F) (stage1_0 0).view (Rect.unit (s := S32x150x160) ![0, 0, 0] S32x150x160.size inb_S32x150x160_S32x150x160_0_0_0).toLoadRect f0 = f0 :=
  Memref.readAt_unit_zero (Elt F) cc1_stg0_0 (by funext a; fin_cases a <;> rfl) _ f0

/-- A store of the whole staging buffer leaves the stored row. -/
theorem metrics_store (c : Dev nD) (f1 : Buf (Elt F) ((stage1_1 0).view.loc (c : Thread nD τ))) (w : Vec F S1x128 .f32) :
    (stage1_1 0).view.writes (Elt F) f1 [⟨Rect.unit (s := S1x128) ![0, 0] S1x128.size inb_S1x128_S1x128_0_0, w⟩] = w :=
  Memref.write_access_unit_zero_univ (Elt F) cc1_stg1_0 (off := ![0, 0]) (by funext a; fin_cases a <;> rfl) inb_S1x128_S1x128_0_0 f1 w

/-- The row after the body's store of what it computes from what it loads. -/
theorem metrics_end (c : Dev nD) (f0 : Buf (Elt F) ((stage1_0 0).view.loc (c : Thread nD τ))) (f1 : Buf (Elt F) ((stage1_1 0).view.loc (c : Thread nD τ))) :
    (let x : Vec F S32x150x160 .i32 := View.readAt (Elt F) (stage1_0 0).view (Rect.unit (s := S32x150x160) ![0, 0, 0] S32x150x160.size inb_S32x150x160_S32x150x160_0_0_0).toLoadRect f0
     (stage1_1 0).view.writes (Elt F) f1 [⟨Rect.unit (s := S1x128) ![0, 0] S1x128.size inb_S1x128_S1x128_0_0, k1_pay1 (k1_pay4 x) (k1_pay8 x) (k1_pay9 x) (k1_pay10 x)⟩])
      = metricsOf (F := F) f0 := by
  rw [metrics_load c f0]
  exact metrics_store c f1 _

/-- From the two staging buffers the kernel returns with the first as it was and the second at the metrics of the first. -/
theorem metrics_body (c : Dev nD) (f0 : Buf (Elt F) ((stage1_0 0).view.loc (c : Thread nD τ))) (f1 : Buf (Elt F) ((stage1_1 0).view.loc (c : Thread nD τ)))
    (Q : PUnit → sProp 𝕄) :
    iprop(mPt c (stage1_0 0) f0 ∗ mPt c (stage1_1 0) f1 ∗ (iprop(mPt c (stage1_0 0) f0 ∗ mPt c (stage1_1 0) (metricsOf (F := F) f0)) -∗ Q ⟨⟩))
      ⊢ wp frame (wpE (defs₀ (F := F)) 𝒱₀ c none) Set.univ (cc1__metrics_body (stage1_0 0) (hstage1_0 0) (stage1_1 0) (hstage1_1 0)) Q := by
  simp only [cc1__metrics_body_eq_skeleton]; unfold cc1__metrics_body_skel
  simp only [k1_part1_eq_skeleton]; unfold k1_part1_skel
  iintro ⟨H0, H1, Hk⟩
  sl_exec
  sl_step
  iapply Hk
  isplitl [H0]; · iexact H0
  iapply (Entails.of_eq (congrArg (mPt c (stage1_1 0)) (metrics_end c f0 f1)))
  iexact H1
/-! ## The proof data -/

/-- The pairs of a TensorCore's semaphore and index at or below the stage after the SparseCore call. -/
def belowSet (c : Dev nD) : Set (SemLoc sig × HIx 1) := {p | (K (F := F)).lev ((c : Thread nD τ), p.1) p.2 ≤ 8}

section Region

variable (V : (c : Dev nD) → (b : Ref sig .tc) → Buf (Elt F) ((c : Thread nD τ).loc b))

/-- The counts as the fetch stages them. -/
abbrev staged (c : Dev nD) : Vec F S32x150x160 .i32 := ((cfg1.win 0).blk t1_0).view.read (Elt F) (V c main_v3)

/-- The region's proof data: the two arrays at the entry contents; after the body the first staging buffer as fetched and the
    second at the metrics; nothing owed, the recorded pairs within `belowSet`. -/
def mDat (c : Dev nD) : Dat τ (Elt F) (HIx 1) ℕ UU ℕ cfg1 c where
  A w := V c (Pipeline.arrRef spec1 w)
  after w _ := match w with
    | ⟨0, _⟩ => staged V c
    | ⟨1, _⟩ => metricsOf (F := F) (staged V c)
  Φ _ := Pipeline.scopedRest (Ix := HIx 1) (Name := ℕ) (U := UU) (Lvl := ℕ) (Val := Elt F) spec1 c
  q _ := fullShare
  owed _ := 0
  recorded _ := belowSet (F := F) c

abbrev adm : (p : Fin 1) → (pcfgs (F := F) p).Adm := fun p => (cfgs p).toPCfg_adm

def mDats : (p : Fin 1) → (c : Dev nD) → Dat τ (Elt F) (HIx 1) ℕ UU ℕ (Pipeline.pin (pcfgs (F := F)) adm p) c
  | ⟨0, _⟩ => fun c => mDat V c

theorem staged_before (c : Dev nD) (d : (cfg1.win 0).block.Idx → Elt F (cfg1.win 0).elt) : (mDat V c).before 0 t1_0 d = staged V c := by
  unfold Dat.before; rw [if_pos (by decide)]; rfl

theorem metrics_obligation (c : Dev nD) : BodyObligation (mDat V c) (defs₀ (F := F)) 𝒱₀ (none : HIx 1) Set.univ := fun t => by
  obtain rfl := fin_N1 t
  rw [bigSep_W1, bigSep_W1]
  simp only [owns_whole_eq]
  rw [show (mDat V c).Φ t1_0.succ = (mDat V c).Φ t1_0.castSucc from rfl,
    show (mDat V c).owesAt none t1_0.succ = (mDat V c).owesAt none t1_0.castSucc from rfl]
  iintro ⟨HΦ, Howes, ⟨%d0, %f0, %hf0, H0⟩, ⟨%d1, %f1, -, H1⟩⟩
  rw [staged_before] at hf0
  subst hf0
  iapply (metrics_body c (staged V c) f1 _)
  isplitl [H0]; · iexact H0
  isplitl [H1]; · iexact H1
  iintro ⟨H0, H1⟩
  isplitl [HΦ]; · iexact HΦ
  isplitl [Howes]; · iexact Howes
  isplitl [H0]; · iexists _; isplitr; swap; (· iexact H0); ipureintro; dsimp only [mDat]
  iexists _; isplitr; swap; (· iexact H1); ipureintro; dsimp only [mDat]

/-- The fetched counts are the array's. -/
theorem staged_eq (c : Dev nD) : staged V c = V c main_v3 := by
  funext j
  show V c main_v3 (((cfg1.win 0).blk t1_0).view.emb j) = _
  congr 1
  funext a; apply Fin.ext
  show (((cfg1.win 0).rect t1_0).emb j a).val = _
  rw [Window.rect_emb_val_of_index_zero _ _ _ rfl]

/-- The second array after the region is the metrics of the first. -/
theorem mDat_out (c : Dev nD) : (mDat V c).arrAt 1 cfg1.N = metricsOf (F := F) (V c main_v3) := by
  refine (mDat V c).arrAt_eq_of_after_last 1 t1_0 (by decide +kernel) _ fun j => ?_
  rw [← staged_eq V c]
  rfl

/-! ## The region over the TensorCore's state -/

/-- The TensorCore's unscoped buffers, as the operations of @main hold them. -/
def hostRefs : Finset (DevRef τ sig) := (StableHlo.tcRefs τ sig).filter fun b => ¬ b.isScoped

omit [FloatOps F] in
theorem unscopedBufs_held (c : Dev nD) (W : Valuation τ sig (Elt F)) :
    (unscopedBufs c (fun b => W b) : sProp 𝕄) = StableHlo.held (c : Thread nD τ) hostRefs W := by
  unfold unscopedBufs StableHlo.held hostRefs StableHlo.tcRefs
  rw [Finset.filter_map, bigSep_map]
  rfl

/-- The core owing nothing, every pair it has recorded at or below the stage after the SparseCore call. -/
def owesBelow (c : Dev nD) : sProp 𝕄 := iprop(∃ W, ⌜(K (F := F)).WBelow (c : Thread nD τ) W 8⌝ ∗ owes (c : Thread nD τ) (0 : CellTallies nD τ sig (HIx 1)) W)

variable (V' : (c : Dev nD) → (b : Ref sig .tc) → Buf (Elt F) ((c : Thread nD τ).loc b))

set_option backward.isDefEq.respectTransparency.types false in
/-- The region from the unscoped buffers at `V` to the same at `V'`, which has the metrics of the counts in the result's array
    and is `V` at every other. -/
def mReg (h_out : ∀ c, V' c main_v4 = metricsOf (F := F) (V c main_v3)) (h_ne : ∀ c (b : Ref sig .tc), b ≠ main_v4 → V' c b = V c b) :
    Pipeline.RegionSeg (pcfgs (F := F)) adm (mDats V) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (metrics_obligation V c).loose
  hwaits := Pipeline.hwaits_of_owed_zero _ _ _ _ (K (F := F)).L (K (F := F)).lev 0 fun _ _ => rfl
  pre c := iprop(unscopedBufs c (V c) ∗ owesBelow c)
  post c := iprop(unscopedBufs c (V' c) ∗ owesBelow c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (mDats V) launch1.win launch1.arr_whole c
      ((mDats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold owesBelow Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (mDats V 0 c).Φ 0 = Pipeline.scopedRest (Ix := HIx 1) (Name := ℕ) (U := UU) (Lvl := ℕ) (Val := Elt F) spec1 c from rfl]
    iintro ⟨-, -, Hr⟩; iexact Hr
  hout c := by
    rw [Pipeline.ownSems0_none,
      show (mDats V 0 c).Φ (Fin.last _) = Pipeline.scopedRest (Ix := HIx 1) (Name := ℕ) (U := UU) (Lvl := ℕ) (Val := Elt F) spec1 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win
      launch1.arr_whole c (mDats V) ((mDats V 0 c).share_full fun _ => rfl) (V c) (V' c) ((mDats V 0 c).arrAt · cfg1.N)
      (fun w => by
        fin_cases w
        · exact ((mDats V 0 c).arrAt_in 0 rfl _).trans (h_ne c main_v3 (by decide)).symm
        · exact (mDat_out V c).trans (h_out c).symm)
      (fun b hb => h_ne c b fun h => hb (h ▸ Finset.mem_image.mpr ⟨1, Finset.mem_univ _, rfl⟩))
    iintro ⟨Ha, HO, -, Hrest⟩
    imodintro
    isplitl [Ha Hrest]
    · iapply hjoin; isplitl [Ha] <;> iassumption
    unfold owesBelow Pipeline.Dat.owesAt Pipeline.owesWithin
    icases HO with ⟨%W, %hW, HO⟩; iexists W; isplitr
    · ipureintro; intro p hp
      rcases hW hp with h | ⟨w, s, h⟩
      · exact h
      · rw [h]; exact Nat.zero_le _
    iexact HO

end Region

end Cert.Proof.KernelIdeal

end
-- ==== Proof.LaunchIdeal.lean ====
/-
  The launch. The TensorCore flattens the two class arrays, hands each of the 32 tiles a share of both and its own row of the
  result, gets the rows back counted, regroups them as 32 × 150 × 160 and runs the metrics' region on them, and cuts the three
  metrics out of the row the region leaves. Stated here: the handover per tile and SparseCore, the split of the arrays over the
  tiles, @main from the launch memory with the contents of every buffer named along the way, and the program's run.
-/
module

public import proofs.«01_k».proof.Proof.MetricsIdeal
public import proofs.«01_k».proof.Proof.Classes
public import Idealize.ShloMosaic.Lib.Transfers

@[expose] public section

noncomputable section

namespace Cert.Proof.KernelIdeal

open Cert.KernelIdeal Cert.KernelIdeal.Gen Cert.Proof.Histogram

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Tactic

variable {F : FTy → Type} [FloatOps F]

local notation "𝕄" => MT nD τ sig (HIx 1) (Elt F) ℕ UU ℕ

/-! ## What the buffers hold along @main -/

section Values

/-- @main's host operations, in order. -/
abbrev opP : HloOp τ sig (Elt F) :=
  StableHlo.reshape (τ := τ) (Val := Elt F) main_arg0 main_v0 (rfl : (.i32 : EltTy) = .i32) shapeCasts_S8x512x512_S2097152
abbrev opT : HloOp τ sig (Elt F) :=
  StableHlo.reshape (τ := τ) (Val := Elt F) main_arg1 main_v1 (rfl : (.i32 : EltTy) = .i32) shapeCasts_S8x512x512_S2097152
abbrev opG : HloOp τ sig (Elt F) :=
  StableHlo.reshape (τ := τ) (Val := Elt F) main_v2 main_v3 (rfl : (.i32 : EltTy) = .i32) shapeCasts_S32x24000_S32x150x160
abbrev opC : HloOp τ sig (Elt F) :=
  StableHlo.unary (τ := τ) main_v4 main_v5 ((extractStridedSlice S1x3 ![0, 0] · slices_S1x128_S1x3_0_0) : (⟨S1x128, .f32⟩ : BufTy).Contents (Elt F) → (⟨S1x3, .f32⟩ : BufTy).Contents (Elt F))
abbrev opR : HloOp τ sig (Elt F) :=
  StableHlo.reshape (τ := τ) (Val := Elt F) main_v5 main_v6 (rfl : (.f32 : EltTy) = .f32) shapeCasts_S1x3_S3
theorem opP_sub : (opP (F := F)).bufs ⊆ hostRefs :=
  show (({(main_arg0 : DevRef τ sig)} : Finset (DevRef τ sig)) ∪ {(main_v0 : DevRef τ sig)}) ⊆ hostRefs by decide
theorem opT_sub : (opT (F := F)).bufs ⊆ hostRefs :=
  show (({(main_arg1 : DevRef τ sig)} : Finset (DevRef τ sig)) ∪ {(main_v1 : DevRef τ sig)}) ⊆ hostRefs by decide
theorem opG_sub : (opG (F := F)).bufs ⊆ hostRefs :=
  show (({(main_v2 : DevRef τ sig)} : Finset (DevRef τ sig)) ∪ {(main_v3 : DevRef τ sig)}) ⊆ hostRefs by decide
theorem opC_sub : (opC (F := F)).bufs ⊆ hostRefs :=
  show (({(main_v4 : DevRef τ sig)} : Finset (DevRef τ sig)) ∪ {(main_v5 : DevRef τ sig)}) ⊆ hostRefs by decide
theorem opR_sub : (opR (F := F)).bufs ⊆ hostRefs :=
  show (({(main_v5 : DevRef τ sig)} : Finset (DevRef τ sig)) ∪ {(main_v6 : DevRef τ sig)}) ⊆ hostRefs by decide

variable (m : (ℓ : Loc nD τ sig) → Buf (Elt F) ℓ)

/-- At launch. -/
def Vl (d : Dev nD) : Valuation τ sig (Elt F) := fun b => m (d, b)

/-- With both class arrays flattened. -/
def Vf (d : Dev nD) : Valuation τ sig (Elt F) :=
  (opT (F := F)).result
    ((opP (F := F)).result (Vl m d))

/-- The flat predicted classes. -/
def pred (d : Dev nD) : Buf (Elt F) (pLoc d) := Vf m d (main_v0 : DevRef τ sig)
/-- The flat true classes. -/
def truth (d : Dev nD) : Buf (Elt F) (tLoc d) := Vf m d (main_v1 : DevRef τ sig)

/-- After the SparseCore call: every tile's row counted. -/
def Vc (d : Dev nD) : Valuation τ sig (Elt F) :=
  Function.update (Vf m d) (main_v2 : DevRef τ sig) (show Buf (Elt F) (oLoc d) from tileCounts (pred m d) (truth m d))

/-- With the rows regrouped. -/
def Vg (d : Dev nD) : Valuation τ sig (Elt F) :=
  (opG (F := F)).result (Vc m d)

/-- After the TensorCore's call. -/
def Vr (d : Dev nD) : Valuation τ sig (Elt F) :=
  Function.update (Vg m d) (main_v4 : DevRef τ sig)
    (show Buf (Elt F) ((SparseCore.T d : Thread nD τ).loc main_v4) from metricsOf (Vg m d (main_v3 : DevRef τ sig)))

/-- At the end. -/
def Ve (d : Dev nD) : Valuation τ sig (Elt F) :=
  (opR (F := F)).result
    ((opC (F := F)).result (Vr m d))

end Values

/-! ## The handover -/

section Handover

variable (m : (ℓ : Loc nD τ sig) → Buf (Elt F) ℓ)

/-- The tile of SparseCore `c` and subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- The share of each class array tile `L` reads through. -/
abbrev tileShare (L : grid0.Coords) : PosShare TreeShare := shareTok fullShare 32 ⟨wid L, wid_lt L⟩

/-- What tile `L` holds: its shares of the classes, and its row of the result as in `f`. -/
def tilePts (d : Dev nD) (f : Buf (Elt F) (oLoc d)) (L : grid0.Coords) : sProp 𝕄 :=
  iprop((pLoc d ↦{tileShare L} pred m d) ∗ (tLoc d ↦{tileShare L} truth m d) ∗ oLoc d ↦[(oRow L).view.set]{fullShare} f)

/-- The result before and after the tiles. -/
abbrev rows0 (d : Dev nD) : Buf (Elt F) (oLoc d) := Vf m d (main_v2 : DevRef τ sig)
abbrev rows1 (d : Dev nD) : Buf (Elt F) (oLoc d) := tileCounts (pred m d) (truth m d)

def P : (K (F := F)).Pay (nD := nD) (Val := Elt F) (Name := ℕ) (U := UU) where
  st q d c := match q with | 0 => bigSep Finset.univ fun i : Fin (grid0.bound 1) => tilePts m d (rows0 m d) (coordsV c i)
  dn q d c := match q with | 0 => bigSep Finset.univ fun i : Fin (grid0.bound 1) => tilePts m d (rows1 m d) (coordsV c i)
  go q d c i := match q with | 0 => tilePts m d (rows0 m d) (coordsV c i)
  td q d c i := match q with | 0 => tilePts m d (rows1 m d) (coordsV c i)
  x _ _ := iprop(emp)

instance (d : Dev nD) (f : Buf (Elt F) (oLoc d)) (L : grid0.Coords) : Storable (upEmb : UEmb _ 𝕄) (tilePts m d f L) := by
  unfold tilePts; infer_instance

instance : (P m).IsStorable where
  st q d c := by match q with | 0 => exact inferInstanceAs (Storable (upEmb : UEmb _ 𝕄) (bigSep Finset.univ fun i : Fin (grid0.bound 1) => tilePts m d (rows0 m d) (coordsV c i)))
  dn q d c := by match q with | 0 => exact inferInstanceAs (Storable (upEmb : UEmb _ 𝕄) (bigSep Finset.univ fun i : Fin (grid0.bound 1) => tilePts m d (rows1 m d) (coordsV c i)))
  go q d c i := by match q with | 0 => exact inferInstanceAs (Storable (upEmb : UEmb _ 𝕄) (tilePts m d (rows0 m d) (coordsV c i)))
  td q d c i := by match q with | 0 => exact inferInstanceAs (Storable (upEmb : UEmb _ 𝕄) (tilePts m d (rows1 m d) (coordsV c i)))

theorem defs₀_vector (c : Fin τ.nSC) (s : Fin τ.nSub) :
    defs₀ (F := F) (.scVector c s) 0 ()
      = SparseCore.onTile hcore0 hsub0 (fun c s => cc0__hist_body (coordsV c s)
          (Memref.whole main_v0_scv) (Memref.isWhole_whole _) (Memref.whole main_v1_scv) (Memref.isWhole_whole _) (Memref.whole main_v2_scv) (Memref.isWhole_whole _)
          (Memref.whole cc0_scratch0) (Memref.isWhole_whole _) (Memref.whole cc0_scratch1) (Memref.isWhole_whole _) (Memref.whole cc0_scratch2) (Memref.isWhole_whole _)
          cc0_scoped0 cc0_scoped1 cc0_scoped2) ⟨⟩ c s := rfl

omit [FloatOps F] in
/-- What a tile has waited on since its call began, read as the launch asks for it. -/
theorem waits_weaken {c : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes c O W')
      ⊢ iprop(A ∗ B ∗ C ∗ ∃ W', ⌜∀ p ∈ W', p ∈ W ∨ p.2 = none ∨ p.2 = some q⌝ ∗ owes c O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- A tile counts its row, as the launch hands it its part. -/
theorem tile_counts (d : Dev nD) (L : grid0.Coords) (hpt : Classes (pred m d) (truth m d))
    (O : CellTallies nD τ sig (HIx 1)) (W : Waits sig (HIx 1)) (hO : ∀ g, O g none = 0) :
    iprop((levAts (K (F := F)).L (K (F := F)).lev : sProp 𝕄) ∗ emp ∗ tilePts m d (rows0 m d) L
        ∗ scopedBufs (thr d L) ∗ scopedSems0 (thr d L) ∗ owes (thr d L) O W)
      ⊢ wp frame (wpE (defs₀ (F := F)) 𝒱₀ (thr d L) none) Set.univ
          (cc0__hist_body L (Memref.whole main_v0_scv) (Memref.isWhole_whole _) (Memref.whole main_v1_scv) (Memref.isWhole_whole _) (Memref.whole main_v2_scv) (Memref.isWhole_whole _)
            (Memref.whole cc0_scratch0) (Memref.isWhole_whole _) (Memref.whole cc0_scratch1) (Memref.isWhole_whole _) (Memref.whole cc0_scratch2) (Memref.isWhole_whole _)
            cc0_scoped0 cc0_scoped1 cc0_scoped2)
          fun _ => iprop(tilePts m d (rows1 m d) L ∗ scopedBufs (thr d L) ∗ scopedSems0 (thr d L)
            ∗ ∃ W', ⌜∀ p ∈ W', p ∈ W ∨ p.2 = none ∨ p.2 = some (0 : Fin 1)⌝ ∗ owes (thr d L) O W') := by
  refine BIBase.Entails.trans ?_ ((body d L (pred m d) (truth m d) (rows0 m d) (tileShare L) hpt O W hO).trans
    (wp_mono frame _ _ fun _ => waits_weaken (q := 0)))
  unfold tilePts
  iintro ⟨Hl, -, Hg, Hb, Hs, HO⟩
  isplitl [Hl]; · iexact Hl
  isplitl [Hg]; · iexact Hg
  isplitl [Hb]; · iexact Hb
  isplitl [Hs] <;> iassumption

set_option maxRecDepth 1024 in
theorem tileObl (hpt : ∀ d, Classes (pred m d) (truth m d)) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact tile_counts m d (coordsV ⟨_, hc.1⟩ ⟨_, hc.2⟩) (hpt d) O W hO

theorem vecSplit : (K (F := F)).VecSplit' (P m) 0 := by
  intro d c
  show (bigSep Finset.univ fun i : Fin (grid0.bound 1) => tilePts m d (rows0 m d) (coordsV c i)) ⊢ |={Set.univ}=> iprop(
      (bigSep Finset.univ fun i : Fin (grid0.bound 1) => tilePts m d (rows0 m d) (coordsV c i))
      ∗ ((bigSep Finset.univ fun i : Fin (grid0.bound 1) => tilePts m d (rows1 m d) (coordsV c i))
          -∗ bigSep Finset.univ fun i : Fin (grid0.bound 1) => tilePts m d (rows1 m d) (coordsV c i)))
  iintro H; imodintro
  isplitl [H]; · iexact H
  iintro H; iexact H

end Handover

/-! ## The arrays over the tiles -/

section Arrays

/-- The tiles by number. -/
def tileEquiv : Fin (grid0.bound 0) × Fin (grid0.bound 1) ≃ Fin 32 where
  toFun x := ⟨wid (coordsV x.1 x.2), wid_lt _⟩
  invFun k := (⟨k.val % 2, Nat.mod_lt _ two_pos⟩, ⟨k.val / 2, show k.val / 2 < 16 by omega⟩)
  left_inv x := by
    obtain ⟨⟨c, hc⟩, ⟨s, hs⟩⟩ := x
    have hc : c < 2 := hc
    refine Prod.ext (Fin.ext ?_) (Fin.ext ?_)
    · show (2 * s + c) % 2 = c; omega
    · show (2 * s + c) / 2 = s; omega
  right_inv k := Fin.ext (show 2 * (k.val / 2) + k.val % 2 = k.val by omega)

/-- A tile's row holds the entries of its number. -/
theorem mem_oRow (L : grid0.Coords) (j : S32x24000.Idx) : j ∈ (oRow L).view.set ↔ (j 0).val = wid L := by
  constructor
  · intro h
    obtain ⟨b, -, rfl⟩ := Finset.mem_map.mp h
    let j' : S32x24000.Idx := fun | ⟨0, _⟩ => ⟨wid L, wid_lt L⟩ | ⟨1, _⟩ => b 0
    have e : (oRow L).view.emb b = j' := oRow_emb L b j' rfl rfl
    exact congrArg (fun x : S32x24000.Idx => (x 0).val) e
  · intro h
    let b : S24000.Idx := fun a => ⟨(j 1).val, by obtain rfl := Subsingleton.elim a 0; exact (j 1).isLt⟩
    exact Finset.mem_map.mpr ⟨b, Finset.mem_univ _, oRow_emb L b j h rfl⟩

/-- The entries of the result in tile `x`'s row. -/
abbrev rowSet (x : Fin (grid0.bound 0) × Fin (grid0.bound 1)) : Finset S32x24000.Idx := (oRow (coordsV x.1 x.2)).view.set

theorem rows_disjoint : ∀ x ∈ (Finset.univ : Finset (Fin (grid0.bound 0) × Fin (grid0.bound 1))), ∀ y ∈ (Finset.univ : Finset _), x ≠ y →
    Disjoint (rowSet x) (rowSet y) := by
  intro x _ y _ h
  refine Finset.disjoint_left.mpr fun j hx hy => h (tileEquiv.injective (Fin.ext ?_))
  exact ((mem_oRow _ j).mp hx).symm.trans ((mem_oRow _ j).mp hy)

theorem rows_cover : (Finset.univ : Finset (Fin (grid0.bound 0) × Fin (grid0.bound 1))).biUnion
    rowSet = Finset.univ := by
  refine Finset.eq_univ_iff_forall.mpr fun j => Finset.mem_biUnion.mpr ⟨tileEquiv.symm (j 0), Finset.mem_univ _, (mem_oRow _ j).mpr ?_⟩
  exact (congrArg Fin.val (tileEquiv.apply_symm_apply (j 0))).symm

omit [FloatOps F] in
/-- The result array is its tiles' rows. -/
theorem oPts_rows (d : Dev nD) (f : Buf (Elt F) (oLoc d)) :
    (oLoc d ↦{fullShare} f : sProp 𝕄)
      = bigSep Finset.univ fun c : Fin (grid0.bound 0) => bigSep Finset.univ fun s : Fin (grid0.bound 1) => oLoc d ↦[(oRow (coordsV c s)).view.set]{fullShare} f := by
  rw [← bigSep_univ_prod fun x : Fin (grid0.bound 0) × Fin (grid0.bound 1) => (oLoc d ↦[(oRow (coordsV x.1 x.2)).view.set]{fullShare} f : sProp 𝕄),
    ← pointsTo_biUnion Finset.univ (ℓ := oLoc d) rowSet rows_disjoint]
  exact congrArg (fun S => (oLoc d ↦[S]{fullShare} f : sProp 𝕄)) rows_cover.symm

omit [FloatOps F] in
/-- An array's 32 read shares, dealt over the tiles. -/
theorem shares_tiles (ℓ : Loc nD τ sig) (f : Buf (Elt F) ℓ) :
    (bigSep Finset.univ fun i : Fin 32 => (ℓ ↦{shareTok fullShare 32 i} f : sProp 𝕄))
      = bigSep Finset.univ fun c : Fin (grid0.bound 0) => bigSep Finset.univ fun s : Fin (grid0.bound 1) => ℓ ↦{tileShare (coordsV c s)} f := by
  rw [bigSep_univ_equiv tileEquiv, bigSep_univ_prod]; rfl

variable (m : (ℓ : Loc nD τ sig) → Buf (Elt F) ℓ)

/-- What is left of the two class arrays while the tiles hold their shares. -/
def leftPts (d : Dev nD) : sProp 𝕄 :=
  iprop((pLoc d ↦{shareDrop fullShare 32} pred m d) ∗ (tLoc d ↦{shareDrop fullShare 32} truth m d))

/-- Every tile's part, dealt over the SparseCores. -/
def allPts (d : Dev nD) (f : Buf (Elt F) (oLoc d)) : sProp 𝕄 :=
  bigSep Finset.univ fun c : Fin (grid0.bound 0) => bigSep Finset.univ fun s : Fin (grid0.bound 1) => tilePts m d f (coordsV c s)

theorem allPts_eq (d : Dev nD) (f : Buf (Elt F) (oLoc d)) :
    allPts m d f = iprop((bigSep Finset.univ fun i : Fin 32 => (pLoc d ↦{shareTok fullShare 32 i} pred m d : sProp 𝕄))
      ∗ (bigSep Finset.univ fun i : Fin 32 => (tLoc d ↦{shareTok fullShare 32 i} truth m d : sProp 𝕄)) ∗ oLoc d ↦{fullShare} f) := by
  unfold allPts tilePts
  rw [shares_tiles, shares_tiles, oPts_rows]
  simp only [bigSep_sep']

theorem deal (d : Dev nD) (f : Buf (Elt F) (oLoc d)) :
    iprop((pLoc d ↦{fullShare} pred m d) ∗ (tLoc d ↦{fullShare} truth m d) ∗ oLoc d ↦{fullShare} f)
      ⊢ (iprop(leftPts m d ∗ allPts m d f) : sProp 𝕄) := by
  rw [allPts_eq]; unfold leftPts
  iintro ⟨Hp, Ht, Ho⟩
  ihave Hp := (Transfers.pointsTo_toks_split fullShare 32) $$ Hp
  ihave Ht := (Transfers.pointsTo_toks_split fullShare 32) $$ Ht
  icases Hp with ⟨Hp0, Hp⟩
  icases Ht with ⟨Ht0, Ht⟩
  isplitl [Hp0 Ht0]
  · isplitl [Hp0] <;> iassumption
  isplitl [Hp]; · iexact Hp
  isplitl [Ht] <;> iassumption

theorem gather (d : Dev nD) (f : Buf (Elt F) (oLoc d)) :
    (iprop(leftPts m d ∗ allPts m d f) : sProp 𝕄)
      ⊢ iprop((pLoc d ↦{fullShare} pred m d) ∗ (tLoc d ↦{fullShare} truth m d) ∗ oLoc d ↦{fullShare} f) := by
  rw [allPts_eq]; unfold leftPts
  iintro ⟨⟨Hp0, Ht0⟩, Hp, Ht, Ho⟩
  isplitl [Hp0 Hp]
  · iapply (Transfers.pointsTo_toks_join fullShare 32); isplitl [Hp0] <;> iassumption
  isplitl [Ht0 Ht]
  · iapply (Transfers.pointsTo_toks_join fullShare 32); isplitl [Ht0] <;> iassumption
  iexact Ho

/-- The three arrays of the SparseCore call. -/
def tileRefs : Finset (DevRef τ sig) := {(main_v0 : DevRef τ sig), (main_v1 : DevRef τ sig), (main_v2 : DevRef τ sig)}

theorem tileRefs_sub : tileRefs ⊆ hostRefs := by decide

omit [FloatOps F] in
/-- The unscoped buffers, the call's three arrays apart. -/
theorem held_tiles (d : Dev nD) (W : Valuation τ sig (Elt F)) :
    (StableHlo.held (d.tc : Thread nD τ) hostRefs W : sProp 𝕄)
      = iprop(((pLoc d ↦{fullShare} W (main_v0 : DevRef τ sig)) ∗ (tLoc d ↦{fullShare} W (main_v1 : DevRef τ sig)) ∗ oLoc d ↦{fullShare} W (main_v2 : DevRef τ sig))
          ∗ StableHlo.held (d.tc : Thread nD τ) (hostRefs \ tileRefs) W) := by
  rw [StableHlo.held_sub_split _ tileRefs_sub]
  unfold StableHlo.held tileRefs
  rw [SparseCore.bigSep_insert' (by decide), SparseCore.bigSep_insert' (by decide), bigSep_singleton]

/-- Before the call. -/
theorem held_before (d : Dev nD) : (StableHlo.held (d.tc : Thread nD τ) hostRefs (Vf m d) : sProp 𝕄)
    ⊢ iprop((leftPts m d ∗ StableHlo.held (d.tc : Thread nD τ) (hostRefs \ tileRefs) (Vf m d)) ∗ allPts m d (rows0 m d)) := by
  rw [held_tiles]
  iintro ⟨H, Hr⟩
  ihave H := (show iprop((pLoc d ↦{fullShare} Vf m d (main_v0 : DevRef τ sig)) ∗ (tLoc d ↦{fullShare} Vf m d (main_v1 : DevRef τ sig)) ∗ oLoc d ↦{fullShare} Vf m d (main_v2 : DevRef τ sig))
    ⊢ (iprop(leftPts m d ∗ allPts m d (rows0 m d)) : sProp 𝕄) from deal m d (rows0 m d)) $$ H
  icases H with ⟨Hl, Ha⟩
  isplitl [Hl Hr]
  · isplitl [Hl] <;> iassumption
  iexact Ha

/-- After it. -/
theorem held_after (d : Dev nD) :
    iprop((leftPts m d ∗ StableHlo.held (d.tc : Thread nD τ) (hostRefs \ tileRefs) (Vf m d)) ∗ allPts m d (rows1 m d))
      ⊢ (StableHlo.held (d.tc : Thread nD τ) hostRefs (Vc m d) : sProp 𝕄) := by
  have hp : Vc m d (main_v0 : DevRef τ sig) = pred m d := Function.update_of_ne (by decide) _ _
  have ht : Vc m d (main_v1 : DevRef τ sig) = truth m d := Function.update_of_ne (by decide) _ _
  have ho : Vc m d (main_v2 : DevRef τ sig) = rows1 m d := Function.update_self _ _ _
  rw [held_tiles, hp, ht, ho]
  rw [StableHlo.held_congr (V := Vc m d) (V' := Vf m d) _ fun b hb => Function.update_of_ne (fun h => (Finset.mem_sdiff.mp hb).2 (h ▸ by decide)) _ _]
  iintro ⟨⟨Hl, Hr⟩, Ha⟩
  isplitl [Hl Ha]
  · iapply (gather m d (rows1 m d)); isplitl [Hl] <;> iassumption
  iexact Hr

end Arrays

/-! ## The launch element of the ghost state -/

section Ghost

abbrev EP : Emb UP (MT nD τ sig (HIx 1) (Elt F) ℕ UU ℕ) := (Emb.inl : Emb UP (UP × Counters)).trans embR

/-- The pipelined call's cells and tokens on core `d`. -/
abbrev G (d : Dev nD) : sProp 𝕄 :=
  iprop(Pipeline.cellsGhost (Pipeline.pin (pcfgs (F := F)) adm) EP 0 d ∗ Pipeline.toksInit (Pipeline.pin (pcfgs (F := F)) adm) EP 0 d)

theorem G_eq : (bigSep Finset.univ (G (F := F)) : sProp 𝕄)
    = iprop((bigSep Finset.univ fun c : Dev nD => bigSep Finset.univ fun p => (Pipeline.cellsGhost (Pipeline.pin (pcfgs (F := F)) adm) EP p c : sProp 𝕄))
      ∗ bigSep Finset.univ fun c : Dev nD => bigSep Finset.univ fun p => (Pipeline.toksInit (Pipeline.pin (pcfgs (F := F)) adm) EP p c : sProp 𝕄)) := by
  refine (bigSep_sep' _ _ _).trans ?_
  exact congrArg₂ (fun A B : sProp 𝕄 => iprop(A ∗ B)) (bigSep_congr fun c _ => by rw [bigSep_univ_of_subsingleton (0 : Fin 1)])
    (bigSep_congr fun c _ => by rw [bigSep_univ_of_subsingleton (0 : Fin 1)])

theorem pin_inj : Function.Injective (Pipeline.cellOf (nD := nD) (τ := τ) (Pipeline.pin (pcfgs (F := F)) adm)) := cellOf_inj

def u₀ : UU := (initOf (K (F := F)).hsCells (K (F := F)).hsToks,
  (initOf (Pipeline.cells (Pipeline.pin (pcfgs (F := F)) adm) pin_inj) (Pipeline.launchToks (Pipeline.pin (pcfgs (F := F)) adm) pin_inj), 1))

variable (m : (ℓ : Loc nD τ sig) → Buf (Elt F) ℓ)

theorem hu₀ : (ownU (u₀ (F := F)) : sProp 𝕄)
    ⊢ |={Set.univ}=> iprop(BI.own (EH (initOf (K (F := F)).hsCells (K (F := F)).hsToks)) ∗ (bigSep Finset.univ G)
        ∗ bigSep Finset.univ fun c : Thread nD τ => bigSep Finset.univ fun q : Fin 1 => (P m).x q c) := by
  unfold u₀
  iintro Hu
  ihave H := (ownU_pair _ _) $$ Hu
  icases H with ⟨HH, HR⟩
  ihave H := (own_pair_emb embR _ _) $$ HR
  icases H with ⟨HP, -⟩
  imod (Pipeline.fund_ghost (Pipeline.pin (pcfgs (F := F)) adm) EP pin_inj) $$ HP with ⟨Hc, Ht⟩
  imodintro
  isplitl [HH]; · iexact HH
  isplitl [Hc Ht]
  · iapply (Entails.of_eq G_eq.symm)
    isplitl [Hc] <;> iassumption
  unfold P; dsimp only
  rw [show (bigSep Finset.univ fun _ : Thread nD τ => bigSep Finset.univ fun _ : Fin 1 => (iprop(emp) : sProp 𝕄)) = iprop(emp) from by
    exact (bigSep_congr fun _ _ => bigSep_emp_const _).trans (bigSep_emp_const _)]
  iempintro

end Ghost

/-! ## @main on the TensorCore -/

section Main

variable (m : (ℓ : Loc nD τ sig) → Buf (Elt F) ℓ) (ρ : Dev nD → PrngReg)

theorem st_eq (d : Dev nD) : (bigSep Finset.univ fun c : Fin ((K (F := F)).nCore 0) => (P m).st 0 d c) = (allPts m d (rows0 m d) : sProp 𝕄) := rfl
theorem dn_eq (d : Dev nD) : (bigSep Finset.univ fun c : Fin ((K (F := F)).nCore 0) => (P m).dn 0 d c) = (allPts m d (rows1 m d) : sProp 𝕄) := rfl

instance : (EP (F := F)).LandsIn (upEmb : UEmb _ 𝕄) := by unfold EP; infer_instance

/-- The region's buffers before and after. -/
abbrev Vin (c : Dev nD) (b : Ref sig .tc) : Buf (Elt F) ((c : Thread nD τ).loc b) := Vg m c (b : DevRef τ sig)
abbrev Vout (c : Dev nD) (b : Ref sig .tc) : Buf (Elt F) ((c : Thread nD τ).loc b) := Vr m c (b : DevRef τ sig)

theorem Vout_out (c : Dev nD) : Vout m c main_v4 = metricsOf (F := F) (Vin m c main_v3) := Function.update_self _ _ _
theorem Vout_ne (c : Dev nD) (b : Ref sig .tc) (h : b ≠ main_v4) : Vout m c b = Vin m c b :=
  Function.update_of_ne (fun e => h (Proc.devRef_injective _ e)) _ _

/-- The TensorCore's call inside @main. -/
theorem metrics_call [∀ e, Nonempty (Elt F e)] (d : Dev nD) (Q : PUnit → sProp 𝕄) :
    iprop((iprop(boundary (d.tc : Thread nD τ) ∗ StableHlo.held (d.tc : Thread nD τ) hostRefs (Vr m d) ∗ owesBelow d) -∗ Q ⟨⟩)
        ∗ boundary (d.tc : Thread nD τ) ∗ (StableHlo.held (d.tc : Thread nD τ) hostRefs (Vg m d) ∗ owesBelow d)
        ∗ levAts (K (F := F)).L (K (F := F)).lev ∗ G d)
      ⊢ wp frame (wpE ((K (F := F)).defs (D (F := F))) 𝒱 (SparseCore.T d) none) Set.univ
          (Prog.lift (.customCall (SparseCore.inner (Pipeline.entry 0)) ())) Q := by
  have h := Pipeline.RegionSeg.wp (pcfgs (F := F)) adm (mDats (Vin m)) (none : HIx 1) pin_inj EP defs₀ 𝒱₀ (K (F := F)).L (K (F := F)).lev
    (mReg (Vin m) (Vout m) (Vout_out m) (Vout_ne m)) d none (fun _ hu => by cases hu) (fun _ => .ret ⟨⟩) Q
  rw [show (mReg (Vin m) (Vout m) (Vout_out m) (Vout_ne m)).pre d = iprop(unscopedBufs d (Vin m d) ∗ owesBelow d) from rfl,
    show (mReg (Vin m) (Vout m) (Vout_out m) (Vout_ne m)).post d = iprop(unscopedBufs d (Vout m d) ∗ owesBelow d) from rfl,
    show (unscopedBufs d (Vin m d) : sProp 𝕄) = StableHlo.held (d.tc : Thread nD τ) hostRefs (Vg m d) from unscopedBufs_held d (Vg m d),
    show (unscopedBufs d (Vout m d) : sProp 𝕄) = StableHlo.held (d.tc : Thread nD τ) hostRefs (Vr m d) from unscopedBufs_held d (Vr m d)] at h
  refine BIBase.Entails.trans ?_ (h.trans ((K (F := F)).wp_liftProg (D (F := F)) 𝒱 (SparseCore.T d) Set.univ none _ Q))
  iintro ⟨Hk, Hb, Hpre, Hl, Hc, Ht⟩
  isplitl [Hk]
  · iintro H
    rw [wp_ret]; imodintro
    iapply Hk; iexact H
  isplitl [Hb]; · iexact Hb
  isplitl [Hpre]; · iexact Hpre
  isplitl [Hl]; · iexact Hl
  isplitl [Hc] <;> iassumption

/-- The core's handshake state after the call, what it owes apart. -/
def stRest (d : Dev nD) : sProp 𝕄 :=
  iprop(atPos (EH (F := F)) ((K (F := F)).doneCell d) 1 ∅ 0 ∗ reached (EH (F := F)) ((K (F := F)).doneCell d) 1
    ∗ (bigSep Finset.univ fun c : Fin τ.nSC => reached (EH (F := F)) ((K (F := F)).startCell d c) ((K (F := F)).sRank c 1))
    ∗ bigSep (SparseCore.Cfg.callsFrom 1) fun q => bigSep Finset.univ fun c : Fin ((K (F := F)).nCore q) =>
        iprop(dutyTok (EH (F := F)) ((K (F := F)).startCell d ((K (F := F)).core q c)) ((K (F := F)).sRank ((K (F := F)).core q c) q.val) 0
          ∗ cred (tallyAt ((K (F := F)).doneCell d) (some (SparseCore.Cfg.Blocks.last (Q := 1) (N := 1) q)) 1)))

theorem st_eq_rest (d : Dev nD) : ((K (F := F)).tcSt EH d 1 : sProp 𝕄) = iprop(owesBelow d ∗ stRest d) := by
  unfold SparseCore.Cfg.tcSt owesBelow stRest
  rw [(K (F := F)).Otc_end d le_rfl]
  rfl
theorem st_open (d : Dev nD) : ((K (F := F)).tcSt EH d 1 : sProp 𝕄) ⊢ iprop(owesBelow d ∗ stRest d) := Entails.of_eq (st_eq_rest d)
theorem st_close (d : Dev nD) : iprop(owesBelow d ∗ stRest d) ⊢ ((K (F := F)).tcSt EH d 1 : sProp 𝕄) := Entails.of_eq (st_eq_rest d).symm

/-- What @main ends with: the unscoped buffers at their final contents. -/
abbrev FIN (d : Dev nD) : sProp 𝕄 := StableHlo.held (d.tc : Thread nD τ) hostRefs (Ve m d)

/-- @main on device `d`'s TensorCore, every buffer's contents carried along. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d : Thread nD τ).loc b)) : sProp 𝕄) = StableHlo.held (d.tc : Thread nD τ) hostRefs (Vl m d) from unscopedBufs_held d (Vl m d)]
  simp only [main, wp_bind, wp_pure]
  iintro ⟨#Hctx, Hst, ⟨Hb, Hh, Hts, -⟩, HG⟩
  iapply (StableHlo.wp_hlo_within 𝒱 (SparseCore.T d) none Set.univ opP_sub) $$ [Hb Hh]
  · isplitl [Hb] <;> iassumption
  iintro ⟨Hb, Hh⟩
  rw [wp_ret]; imodintro
  iapply (StableHlo.wp_hlo_within 𝒱 (SparseCore.T d) none Set.univ opT_sub) $$ [Hb Hh]
  · isplitl [Hb] <;> iassumption
  iintro ⟨Hb, Hh⟩
  rw [wp_ret]; imodintro
  ihave Hh := (show StableHlo.held (SparseCore.T d) hostRefs ((opT (F := F)).result ((opP (F := F)).result (Vl m d)))
    ⊢ (iprop((leftPts m d ∗ StableHlo.held (d.tc : Thread nD τ) (hostRefs \ tileRefs) (Vf m d)) ∗ allPts m d (rows0 m d)) : sProp 𝕄) from held_before m d) $$ Hh
  icases Hh with ⟨Hleft, Hall⟩
  iapply ((K (F := F)).wp_run (D (F := F)) 𝒱 (EH := EH) (P := P m) κ d 0)
  isplitr; · iexact Hctx
  isplitl [Hst]; · iexact Hst
  isplitl [Hall]
  · rw [st_eq]; iexact Hall
  iintro ⟨Hst, Hdn⟩
  ihave Hdn := (Entails.of_eq (dn_eq m d)) $$ Hdn
  ihave Hh := (held_after m d) $$ [Hleft Hdn]
  · isplitl [Hleft] <;> iassumption
  iapply (StableHlo.wp_hlo_within 𝒱 (SparseCore.T d) none Set.univ opG_sub) $$ [Hb Hh]
  · isplitl [Hb] <;> iassumption
  iintro ⟨Hb, Hh⟩
  rw [wp_ret]; imodintro
  ihave Hh := (Entails.of_eq (show (StableHlo.held (SparseCore.T d) hostRefs ((opG (F := F)).result (Vc m d)) : sProp 𝕄)
    = StableHlo.held (d.tc : Thread nD τ) hostRefs (Vg m d) from rfl)) $$ Hh
  ihave Hst := (Entails.of_eq (show (K (F := F)).tcSt EH d ((0 : Fin 1).val + 1) = (K (F := F)).tcSt EH d 1 from rfl)) $$ Hst
  ihave Hst := (st_open (F := F) d) $$ Hst
  icases Hst with ⟨HO, Hst⟩
  iapply (metrics_call m d)
  isplitr [Hb Hh HO HG]
  rotate_left
  · isplitl [Hb]; · iexact Hb
    isplitl [Hh HO]
    · isplitl [Hh] <;> iassumption
    isplitr
    · iapply (SparseCore.Cfg.ctx_levAts κ); iexact Hctx
    iexact HG
  iintro ⟨Hb, Hh, HO⟩
  iapply (StableHlo.wp_hlo_within 𝒱 (SparseCore.T d) none Set.univ opC_sub) $$ [Hb Hh]
  · isplitl [Hb] <;> iassumption
  iintro ⟨Hb, Hh⟩
  rw [wp_ret]; imodintro
  iapply (StableHlo.wp_hlo_within 𝒱 (SparseCore.T d) none Set.univ opR_sub) $$ [Hb Hh]
  · isplitl [Hb] <;> iassumption
  iintro ⟨Hb, Hh⟩
  rw [wp_ret]; imodintro
  imodintro
  isplitl [HO Hst]
  · iapply (st_close (F := F) d); isplitl [HO] <;> iassumption
  isplitl [Hh]; · iexact Hh
  isplitl [Hb] <;> iassumption

/-! ## The arguments and the result at the end -/

/-- The three metrics of two class arrays, as the program computes them. -/
def metrics3 (a b : Vec F S8x512x512 .i32) : Vec F S3 .f32 :=
  shapeCast S3 (extractStridedSlice S1x3 ![0, 0]
    (metricsOf (F := F) (shapeCast S32x150x160 (tileCounts (shapeCast S2097152 a shapeCasts_S8x512x512_S2097152)
      (shapeCast S2097152 b shapeCasts_S8x512x512_S2097152)) shapeCasts_S32x24000_S32x150x160)) slices_S1x128_S1x3_0_0) shapeCasts_S1x3_S3

theorem pred_eq (d : Dev nD) : pred m d = shapeCast S2097152 (m ((d.tc : Thread nD τ).loc main_arg0)) shapeCasts_S8x512x512_S2097152 := by
  unfold pred Vf
  rw [StableHlo.reshape_result_ne (h := by decide), StableHlo.reshape_result']
  rfl
theorem truth_eq (d : Dev nD) : truth m d = shapeCast S2097152 (m ((d.tc : Thread nD τ).loc main_arg1)) shapeCasts_S8x512x512_S2097152 := by
  unfold truth Vf
  rw [StableHlo.reshape_result', StableHlo.reshape_result_ne (h := by decide)]
  rfl

/-- A buffer that @main does not write is as at launch. -/
theorem Ve_arg (d : Dev nD) (b : Ref sig .tc) (h0 : b ≠ main_v0) (h1 : b ≠ main_v1) (h2 : b ≠ main_v2) (h3 : b ≠ main_v3) (h4 : b ≠ main_v4)
    (h5 : b ≠ main_v5) (h6 : b ≠ main_v6) : Ve m d (b : DevRef τ sig) = m ((d.tc : Thread nD τ).loc b) := by
  unfold Ve
  rw [StableHlo.reshape_result_ne (h := h6), StableHlo.unary_result_ne (h := h5)]
  unfold Vr
  rw [Function.update_of_ne (fun e => h4 (Proc.devRef_injective _ e))]
  unfold Vg
  rw [StableHlo.reshape_result_ne (h := h3)]
  unfold Vc
  rw [Function.update_of_ne (fun e => h2 (Proc.devRef_injective _ e))]
  unfold Vf
  rw [StableHlo.reshape_result_ne (h := h1), StableHlo.reshape_result_ne (h := h0)]
  rfl

/-- The result is the three metrics of the arguments. -/
theorem Ve_out (d : Dev nD) : Ve m d (main_v6 : DevRef τ sig)
    = metrics3 (F := F) (m ((d.tc : Thread nD τ).loc main_arg0)) (m ((d.tc : Thread nD τ).loc main_arg1)) := by
  unfold Ve
  rw [StableHlo.reshape_result', StableHlo.unary_result']
  unfold Vr
  rw [Function.update_self]
  unfold Vg
  rw [StableHlo.reshape_result']
  unfold Vc
  rw [Function.update_self, pred_eq, truth_eq]
  rfl

/-- The buffers the claims speak of. -/
def endRefs : Finset (DevRef τ sig) := {(main_arg0 : DevRef τ sig), (main_arg1 : DevRef τ sig), (main_v6 : DevRef τ sig)}

theorem endRefs_sub : endRefs ⊆ hostRefs := by decide

/-- On device `d` the final memory has the arguments as at launch and the result at their metrics. -/
def fq (d : Dev nD) (s' : Phys nD τ sig (Elt F)) : Prop :=
  s'.mem.mem ((d.tc : Thread nD τ).loc main_v6) = metrics3 (F := F) (m ((d.tc : Thread nD τ).loc main_arg0)) (m ((d.tc : Thread nD τ).loc main_arg1))
    ∧ s'.mem.mem ((d.tc : Thread nD τ).loc main_arg0) = m ((d.tc : Thread nD τ).loc main_arg0)
    ∧ s'.mem.mem ((d.tc : Thread nD τ).loc main_arg1) = m ((d.tc : Thread nD τ).loc main_arg1)

theorem fin_split (d : Dev nD) : (FIN m d : sProp 𝕄)
    ⊢ iprop((((d.tc : Thread nD τ).loc main_arg0) ↦{fullShare} m ((d.tc : Thread nD τ).loc main_arg0))
        ∗ (((d.tc : Thread nD τ).loc main_arg1) ↦{fullShare} m ((d.tc : Thread nD τ).loc main_arg1))
        ∗ (((d.tc : Thread nD τ).loc main_v6) ↦{fullShare} (show Buf (Elt F) ((d.tc : Thread nD τ).loc main_v6) from
            metrics3 (F := F) (m ((d.tc : Thread nD τ).loc main_arg0)) (m ((d.tc : Thread nD τ).loc main_arg1))))) := by
  have h0 := Ve_arg m d main_arg0 (by decide) (by decide) (by decide) (by decide) (by decide) (by decide) (by decide)
  have h1 := Ve_arg m d main_arg1 (by decide) (by decide) (by decide) (by decide) (by decide) (by decide) (by decide)
  have h6 := Ve_out m d
  unfold FIN
  rw [StableHlo.held_sub_split _ endRefs_sub]
  unfold StableHlo.held endRefs
  rw [SparseCore.bigSep_insert' (by decide), SparseCore.bigSep_insert' (by decide), bigSep_singleton, h0, h1, h6]
  iintro ⟨H, -⟩
  iexact H

theorem hfin (d : Dev nD) (s' : Phys nD τ sig (Elt F)) : iprop(FIN m d ∗ SI s') ⊢ (⌜fq m d s'⌝ : sProp 𝕄) := by
  iintro ⟨HF, HSI⟩
  ihave HF := (fin_split m d) $$ HF
  icases HF with ⟨H0, H1, H6⟩
  ihave H := (persistent_entails_right (SI_pointsTo_agree (st := s') (ℓ := (d.tc : Thread nD τ).loc main_arg0) (I := Finset.univ) (q := fullShare) (f := m ((d.tc : Thread nD τ).loc main_arg0)))) $$ [HSI H0]
  · isplitl [HSI] <;> iassumption
  icases H with ⟨%h0, HSI, -⟩
  ihave H := (persistent_entails_right (SI_pointsTo_agree (st := s') (ℓ := (d.tc : Thread nD τ).loc main_arg1) (I := Finset.univ) (q := fullShare) (f := m ((d.tc : Thread nD τ).loc main_arg1)))) $$ [HSI H1]
  · isplitl [HSI] <;> iassumption
  icases H with ⟨%h1, HSI, -⟩
  ihave H := (SI_pointsTo_agree (st := s') (ℓ := (d.tc : Thread nD τ).loc main_v6) (I := Finset.univ) (q := fullShare)) $$ [HSI H6]
  · isplitl [HSI] <;> iassumption
  icases H with %h6
  ipureintro
  exact ⟨funext fun i => h6 i (Finset.mem_univ i), funext fun i => h0 i (Finset.mem_univ i), funext fun i => h1 i (Finset.mem_univ i)⟩

/-! ## The program's run -/

/-- What a final state satisfies. -/
def QC : PUnit × MemSt nD τ sig (Elt F) → Prop := fun r =>
  (∀ d : Dev nD, r.2.mem ((d.tc : Thread nD τ).loc main_v6) = metrics3 (F := F) (m ((d.tc : Thread nD τ).loc main_arg0)) (m ((d.tc : Thread nD τ).loc main_arg1))
      ∧ r.2.mem ((d.tc : Thread nD τ).loc main_arg0) = m ((d.tc : Thread nD τ).loc main_arg0)
      ∧ r.2.mem ((d.tc : Thread nD τ).loc main_arg1) = m ((d.tc : Thread nD τ).loc main_arg1))
    ∧ r.2.sem = fun _ => 0

theorem classes_of (h : ∀ d : Dev nD, (∀ i, (m ((d.tc : Thread nD τ).loc main_arg0) i).toNat < 150) ∧ ∀ i, (m ((d.tc : Thread nD τ).loc main_arg1) i).toNat < 150)
    (d : Dev nD) : Classes (pred m d) (truth m d) := by
  rw [pred_eq, truth_eq]
  exact ⟨fun _ => (h d).1 _, fun _ => (h d).2 _⟩

/-- From classes below 150, every run ends with the metrics in the result, the arguments unchanged and every counter at zero. -/
theorem run_main [∀ e, Nonempty (Elt F e)]
    (h : ∀ d : Dev nD, (∀ i, (m ((d.tc : Thread nD τ).loc main_arg0) i).toNat < 150) ∧ ∀ i, (m ((d.tc : Thread nD τ).loc main_arg1) i).toNat < 150) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m (classes_of m h))
    (fun q _ => match q with | 0 => SparseCore.Cfg.VecSplit.of_plain (vecSplit m))
    m ρ main G (FIN m) (u₀ (F := F)) (sep_elim_left.trans (hu₀ m)) (hmain m ρ) (fq m) (hfin m) (QC m) (fun _ h hz => ⟨h, hz⟩)

end Main

end Cert.Proof.KernelIdeal

end
-- ==== Proof.Frames.lean ====
/-
  The three frames: from classes below 150 the kernel, at either float instance, ends with its arguments unchanged and every
  counter at zero; the reference, from any arguments, the same.
-/
module

public import proofs.«01_k».proof.Proof.Launch
public import proofs.«01_k».proof.Proof.LaunchIdeal
public import proofs.«01_k».proof.Proof.Gen.ReferenceIdeal
public import proofs.«01_k».proof.Proof.Gen.ReferenceIdeal.Run
public import proofs.«01_k».proof.Proof.Gen.Pre_classes
public import Idealize.ShloMosaic.Lib.Quiescent

@[expose] public section

noncomputable section

namespace Cert.Proof

open Idealize.ShloMosaic Idealize.SL.Sem

instance (e : EltTy) : Nonempty (Elt Bits e) := by cases e <;> exact ⟨default⟩
instance (e : EltTy) : Nonempty (Elt Ideal e) := by cases e <;> exact ⟨default⟩

/-- The kernel at bit patterns. -/
theorem frame_kernel : Cert.quiescent_Kernel := fun m g hpre =>
  (θ_run Cert.Kernel.defs _ _).mono (fun _ h => ⟨fun c => (h.1 c).2, h.2⟩)
    (Kernel.run_main (F := Bits) m g fun d => Classes.of_pre _ _ (hpre d))

/-- The kernel at the extended reals. -/
theorem frame_kernelIdeal : Cert.quiescent_KernelIdeal := fun m g hpre =>
  (θ_run Cert.KernelIdeal.defs _ _).mono (fun _ h => ⟨fun c => (h.1 c).2, h.2⟩)
    (KernelIdeal.run_main (F := Ideal) m g fun d => Classes.of_pre _ _ (hpre d))

/-- The reference at the extended reals. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The same from classes below 150. -/
theorem frame_reference_classes : Cert.quiescent_ReferenceIdeal_pre_classes := fun m g _ => frame_reference m g trivial

end Cert.Proof

end
-- ==== Proof.Confusion.lean ====
/-
  The three metrics of a table of counts, with no program in sight: `n t p` is how many pixels have true class `t` and predicted
  class `p`, a natural number, and the metrics are quotients of extended reals made of them. Beside them the facts about counts
  and extended reals that both programs' values need.
-/
module

public import Idealize.ShloMosaic.Lib.Pointwise

@[expose] public section

noncomputable section

namespace Cert.Proof.Confusion

open Idealize.ShloMosaic

variable (n : ℕ → ℕ → ℕ)

/-- How many pixels truly are of class `t`. -/
def trueOf (t : ℕ) : ℕ := ∑ p : Fin 150, n t p.val

/-- How many pixels are predicted as class `p`. -/
def predOf (p : ℕ) : ℕ := ∑ t : Fin 150, n t.val p

/-- How many classes are predicted at all. -/
def seen : ℕ := (Finset.univ.filter fun p : Fin 150 => 0 < predOf n p.val).card

/-- The mean of intersection over union, over the classes predicted at all. -/
def miou : EReal :=
  Ideal.div (∑ p : Fin 150, if 0 < predOf n p.val then
      Ideal.div (n p.val p.val : EReal) ((predOf n p.val : EReal) + (trueOf n p.val : EReal) - (n p.val p.val : EReal)) else 0) (seen n : EReal)

/-- The fraction of all pixels that are predicted right. -/
def overall : EReal :=
  Ideal.div (∑ p : Fin 150, (n p.val p.val : EReal)) (∑ t : Fin 150, (trueOf n t.val : EReal))

/-- The mean, over the classes predicted at all, of the fraction of their pixels that is right. -/
def perClass : EReal :=
  Ideal.div (∑ p : Fin 150, if 0 < predOf n p.val then Ideal.div (n p.val p.val : EReal) (predOf n p.val : EReal) else 0) (seen n : EReal)

/-- The table of two arrays of classes, `p` the predicted and `t` the true ones, over `N` pixels. -/
def table {N : ℕ} (p t : Fin N → ℕ) (i j : ℕ) : ℕ := (Finset.univ.filter fun x : Fin N => t x = i ∧ p x = j).card

/-- A predicted class that no pixel has counts none. -/
theorem table_eq_zero {N c : ℕ} {p : Fin N → ℕ} (t : Fin N → ℕ) (hp : ∀ x, p x < c) (i : ℕ) {j : ℕ} (hj : c ≤ j) : table p t i j = 0 := by
  unfold table
  rw [Finset.card_eq_zero, Finset.filter_eq_empty_iff]
  rintro x - ⟨-, h⟩
  have := hp x
  omega

/-- With predicted classes below `c`, the pixels of true class `i` and predicted class `j` are those whose key
    `c · (true class) + predicted class` is `c i + j`. -/
theorem table_eq_keys {N c : ℕ} {p : Fin N → ℕ} (t : Fin N → ℕ) (hp : ∀ x, p x < c) (i : ℕ) {j : ℕ} (hj : j < c) :
    table p t i j = (Finset.univ.filter fun x : Fin N => t x * c + p x = i * c + j).card := by
  unfold table
  congr 1
  refine Finset.filter_congr fun x _ => ⟨fun ⟨h1, h2⟩ => by rw [h1, h2], fun h => ?_⟩
  have hc : 0 < c := lt_of_le_of_lt (Nat.zero_le _) hj
  have hd := congrArg (· / c) h
  have hm := congrArg (· % c) h
  simp only [Nat.mul_comm _ c, Nat.mul_add_div hc, Nat.mul_add_mod, Nat.div_eq_of_lt (hp x), Nat.div_eq_of_lt hj, Nat.mod_eq_of_lt (hp x),
    Nat.mod_eq_of_lt hj, Nat.add_zero] at hd hm
  exact ⟨hd, hm⟩

/-! ## Words and extended reals -/

/-- A count below 2³¹, held in a 32-bit word, converts to itself. -/
theorem sitofp_ofNat {k : ℕ} (h : k < 2 ^ 31) : (FloatOps.sitofp FTy.f32 (BitVec.ofNat 32 k) : Ideal .f32) = ((k : ℕ) : EReal) := by
  show (((BitVec.ofNat 32 k).toInt : ℝ) : EReal) = ((k : ℕ) : EReal)
  have e : (BitVec.ofNat 32 k).toInt = (k : ℤ) := by
    rw [BitVec.toInt_eq_toNat_cond, BitVec.toNat_ofNat, Nat.mod_eq_of_lt (by omega), if_pos (by omega)]
  rw [e]
  norm_cast

/-- A choice by a condition's bit. -/
theorem select_bit {α : Type} (P : Prop) [Decidable P] (a b : α) : Scalar.select (BitVec.ofBool (decide P)) a b = if P then a else b := by
  by_cases h : P <;> simp [h, Scalar.select]

/-- Two numbers below 2³² are equal exactly when their words are. -/
theorem eq_bit {i j : ℕ} (hi : i < 2 ^ 32) (hj : j < 2 ^ 32) : IntOp.cmpi CmpIPredicate.eq (BitVec.ofNat 32 i) (BitVec.ofNat 32 j) = BitVec.ofBool (decide (i = j)) := by
  have e : (BitVec.ofNat 32 i = BitVec.ofNat 32 j) ↔ i = j := by
    constructor
    · intro h
      have := congrArg BitVec.toNat h
      rwa [BitVec.toNat_ofNat, BitVec.toNat_ofNat, Nat.mod_eq_of_lt hi, Nat.mod_eq_of_lt hj] at this
    · rintro rfl; rfl
  show BitVec.ofBool (BitVec.ofNat 32 i == BitVec.ofNat 32 j) = _
  congr 1
  rw [Bool.eq_iff_iff, beq_iff_eq, decide_eq_true_iff, e]

/-- A condition's bit, widened and converted, is one or zero. -/
theorem sitofp_bit (P : Prop) [Decidable P] :
    (FloatOps.sitofp FTy.f32 (BitVec.setWidth 32 (BitVec.ofBool (decide P))) : Ideal .f32) = if P then 1 else 0 := by
  have e : BitVec.setWidth 32 (BitVec.ofBool (decide P)) = BitVec.ofNat 32 (if P then 1 else 0) := by by_cases h : P <;> simp [h]
  rw [e, sitofp_ofNat (by split <;> decide)]
  split <;> simp

/-- A condition's bit, negated. -/
theorem not_bit (P : Prop) [Decidable P] : ~~~BitVec.ofBool (decide P) = BitVec.ofBool (decide ¬P) := by
  by_cases h : P <;> simp [h]

/-- Words of numbers added up are the word of the numbers' sum. -/
theorem fold_addi_ofNat {ι : Type} (s : Finset ι) (f : ι → ℕ) :
    Finset.fold IntOp.addi (0#32) (fun k => BitVec.ofNat 32 (f k)) s = BitVec.ofNat 32 (∑ k ∈ s, f k) := by
  classical
  induction s using Finset.induction_on with
  | empty => simp
  | insert a s ha ih =>
    rw [Finset.fold_insert ha, Finset.sum_insert ha, ih, BitVec.ofNat_add]
    rfl

/-- The bits of a condition on 150 classes, widened and added up, convert to how many classes it holds of. -/
theorem sitofp_count (P : Fin 150 → Prop) [DecidablePred P] :
    (FloatOps.sitofp FTy.f32 (Finset.fold IntOp.addi (0#32) (fun k => BitVec.setWidth 32 (BitVec.ofBool (decide (P k)))) Finset.univ) : Ideal .f32)
      = (((Finset.univ.filter P).card : ℕ) : EReal) := by
  have e : (fun k => BitVec.setWidth 32 (BitVec.ofBool (decide (P k)))) = fun k => BitVec.ofNat 32 (if P k then 1 else 0) := by
    funext k
    by_cases h : P k <;> simp [h]
  rw [e, fold_addi_ofNat, ← Finset.card_filter]
  refine sitofp_ofNat (lt_of_le_of_lt (Finset.card_filter_le _ _) ?_)
  rw [Finset.card_univ, Fintype.card_fin]
  norm_num

/-- The number of classes predicted at all, as a sum of ones. -/
theorem seen_eq_sum : (∑ p : Fin 150, if 0 < predOf n p.val then (1 : EReal) else 0) = (seen n : EReal) := by
  unfold seen
  rw [Finset.sum_boole]

/-- A count is positive as an extended real exactly when it is positive. -/
theorem cast_pos {k : ℕ} : (0 : EReal) < (k : EReal) ↔ 0 < k := by
  exact_mod_cast Iff.rfl

end Cert.Proof.Confusion

end
-- ==== Proof.KernelValue.lean ====
/-
  What the kernel's result holds, at the extended reals: from classes below 150 its three elements are the three metrics of the
  table of counts. Each payload of the TensorCore's body is read at an index, in the order in which the body computes them.
-/
module

public import proofs.«01_k».proof.Proof.LaunchIdeal
public import proofs.«01_k».proof.Proof.Confusion

@[expose] public section

set_option maxRecDepth 16384

noncomputable section

namespace Cert.Proof.KernelIdeal

open Cert.KernelIdeal Cert.KernelIdeal.Gen Cert.Proof.Histogram Cert.Proof.Confusion
open Idealize.ShloMosaic

/-! ## The metrics of a loaded table -/

variable {x : Vec Ideal S32x150x160 .i32} {n : ℕ → ℕ → ℕ}

/-- The summed counts hold the table, its columns from 150 on empty. -/
def Holds (x : Vec Ideal S32x150x160 .i32) (n : ℕ → ℕ → ℕ) : Prop :=
  (∀ (t : Fin 150) (p : Fin 160), k1_pay2 x (ix2 t p) = ((n t.val p.val : ℕ) : EReal)) ∧ ∀ t p, 150 ≤ p → n t p = 0

/-- The diagonal. -/
theorem diag_apply (h : Holds x n) (t : Fin 150) : k1_pay3 x (ix1 t) = ((n t.val t.val : ℕ) : EReal) := by
  unfold k1_pay3
  pointwise
  have e : ∀ p : Fin 160, Scalar.select (IntOp.cmpi CmpIPredicate.eq (BitVec.ofNat 32 t.val) (BitVec.ofNat 32 p.val)) (k1_pay2 x (ix2 t p)) (0 : EReal)
      = if p = ⟨t.val, by omega⟩ then ((n t.val t.val : ℕ) : EReal) else 0 := fun p => by
    rw [eq_bit (by omega) (by omega), select_bit, h.1]
    by_cases hp : t.val = p.val
    · rw [if_pos hp, if_pos (Fin.ext hp.symm), ← hp]
    · rw [if_neg hp, if_neg fun hq => hp (congrArg Fin.val hq).symm]
  rw [Finset.sum_congr rfl fun p _ => e p, Finset.sum_ite_eq' Finset.univ, if_pos (Finset.mem_univ _)]

/-- The sums along the predicted classes. -/
theorem true_apply (h : Holds x n) (t : Fin 150) : k1_pay4 x (ix1 t) = ((trueOf n t.val : ℕ) : EReal) := by
  unfold k1_pay4
  pointwise
  rw [Finset.sum_congr rfl fun p _ => h.1 t p, ← Nat.cast_sum]
  refine congrArg (fun k : ℕ => (k : EReal)) ?_
  unfold trueOf
  rw [Finset.sum_fin_eq_sum_range (fun p : Fin 150 => n t.val p.val), Finset.sum_fin_eq_sum_range (fun p : Fin 160 => n t.val p.val)]
  refine (Finset.sum_subset_zero_on_sdiff (Finset.range_subset_range.2 (by omega)) (fun p hp => ?_) fun p hp => ?_).symm
  · rw [Finset.mem_sdiff, Finset.mem_range, Finset.mem_range] at hp
    rw [dif_pos hp.1]
    exact h.2 _ _ (show 150 ≤ p by omega)
  · rw [Finset.mem_range] at hp
    rw [dif_pos hp, dif_pos (by omega)]

/-- The sums along the true classes, of the predicted classes below 150. -/
theorem pred_apply (h : Holds x n) (p : Fin 150) : k1_pay5 x (ix1 p) = ((predOf n p.val : ℕ) : EReal) := by
  unfold k1_pay5
  pointwise
  rw [Finset.sum_congr rfl fun t _ => h.1 t ⟨p.val, by omega⟩, ← Nat.cast_sum]
  rfl

/-- The mask of the classes predicted at all. -/
theorem mask_apply (h : Holds x n) (p : Fin 150) : k1_pay6 x (ix1 p) = BitVec.ofBool (decide (0 < predOf n p.val)) := by
  unfold k1_pay6
  pointwise
  rw [pred_apply h]
  exact congrArg BitVec.ofBool (decide_eq_decide.2 cast_pos)

/-- How many they are. -/
theorem seen_apply (h : Holds x n) : k1_pay7 x = ((seen n : ℕ) : EReal) := by
  unfold k1_pay7
  pointwise
  rw [← seen_eq_sum]
  exact Finset.sum_congr rfl fun p _ => by rw [mask_apply h, sitofp_bit]

/-- The mean accuracy of a class. -/
theorem perClass_apply (h : Holds x n) : k1_pay8 x = perClass n := by
  unfold k1_pay8
  pointwise
  unfold perClass
  rw [seen_apply h]
  refine congrArg (Ideal.div · (seen n : EReal)) ?_
  refine Finset.sum_congr rfl fun p _ => ?_
  rw [mask_apply h, diag_apply h, pred_apply h, select_bit, select_bit]
  split <;> rfl

/-- The mean intersection over union. -/
theorem miou_apply (h : Holds x n) : k1_pay9 x = miou n := by
  unfold k1_pay9
  pointwise
  unfold miou
  rw [seen_apply h]
  refine congrArg (Ideal.div · (seen n : EReal)) ?_
  refine Finset.sum_congr rfl fun p _ => ?_
  rw [mask_apply h, diag_apply h, pred_apply h, true_apply h, select_bit, select_bit]
  split <;> rfl

/-- A lane of the stored row, from the values it is made of. -/
theorem row_apply (v10 : FVec Ideal S150 .f32) (v30 v42 : Ideal .f32) (v43 : FVec Ideal S1x150 .f32) (l : Fin 128) :
    k1_pay1 v10 v30 v42 v43 (ix2 0 l)
      = Scalar.select (IntOp.cmpi CmpIPredicate.eq (BitVec.ofNat 32 l.val) 0#32) v42 0
        + Scalar.select (IntOp.cmpi CmpIPredicate.eq (BitVec.ofNat 32 l.val) 1#32)
            (Ideal.div (∑ k : Fin 150, v43 (ix2 0 k)) (∑ k : Fin 150, v10 (ix1 k))) 0
        + Scalar.select (IntOp.cmpi CmpIPredicate.eq (BitVec.ofNat 32 l.val) 2#32) v30 0 := by
  unfold k1_pay1
  pointwise

/-- The diagonal as a row. -/
theorem diagRow_apply (h : Holds x n) (k : Fin 150) : k1_pay10 x (ix2 0 k) = ((n k.val k.val : ℕ) : EReal) := by
  unfold k1_pay10
  pointwise
  exact diag_apply h k

/-- The first three lanes of the stored row are the three metrics. -/
theorem metricsOf_apply (h : Holds x n) (l : Fin 3) :
    metricsOf (F := Ideal) x (ix2 0 ⟨l.val, by omega⟩) = ![miou n, overall n, perClass n] l := by
  unfold metricsOf
  rw [row_apply, perClass_apply h, miou_apply h, Finset.sum_congr rfl fun k _ => diagRow_apply h k, Finset.sum_congr rfl fun k _ => true_apply h k]
  change Scalar.select (IntOp.cmpi CmpIPredicate.eq (BitVec.ofNat 32 l.val) (BitVec.ofNat 32 0)) (miou n) (0 : EReal)
    + Scalar.select (IntOp.cmpi CmpIPredicate.eq (BitVec.ofNat 32 l.val) (BitVec.ofNat 32 1)) (overall n) (0 : EReal)
    + Scalar.select (IntOp.cmpi CmpIPredicate.eq (BitVec.ofNat 32 l.val) (BitVec.ofNat 32 2)) (perClass n) (0 : EReal) = _
  rw [eq_bit (by omega) (by omega), eq_bit (by omega) (by omega), eq_bit (by omega) (by omega), select_bit, select_bit, select_bit]
  match l with
  | ⟨0, _⟩ => simp
  | ⟨1, _⟩ => simp
  | ⟨2, _⟩ => simp

/-! ## The table the tiles count -/

/-- The first three lanes of a row, as a vector. -/
theorem three_apply (y : Vec Ideal S1x128 .f32) (l : Fin 3) :
    shapeCast S3 (extractStridedSlice S1x3 ![0, 0] y slices_S1x128_S1x3_0_0) shapeCasts_S1x3_S3 (ix1 l) = y (ix2 0 ⟨l.val, by omega⟩) := by
  pointwise

/-- The tiles' counts, one row of 24000 bins a tile, as 150 rows of 160. -/
theorem split_apply (y : Vec Ideal S32x24000 .i32) (w : Fin 32) (t : Fin 150) (p : Fin 160) :
    shapeCast S32x150x160 y shapeCasts_S32x24000_S32x150x160 (ix3 w t p) = y (ix2 w ⟨t.val * 160 + p.val, by omega⟩) := by
  pointwise

/-- The class of each pixel, as a number. -/
def classOf (a : S2097152.Idx → BitVec 32) (x : Fin 2097152) : ℕ := (a (ix1 x)).toNat

/-- The index of a pixel in range. -/
theorem pixIdx_eq (x : Fin 2097152) : pixIdx x.val = ix1 x := by
  funext a
  match a with
  | ⟨0, _⟩ => exact Fin.ext (if_pos x.isLt)

/-- The bins' counts over all pixels are the table's. -/
theorem count_eq_table {p t : S2097152.Idx → BitVec 32} (hp : ∀ i, (p i).toNat < 150) (ht : ∀ i, (t i).toNat < 150) (i : ℕ) {j : ℕ} (hj : j < 160) :
    count (pixBin p t) 2097152 (i * 160 + j) = table (classOf p) (classOf t) i j := by
  rw [table_eq_keys (c := 160) (p := classOf p) (classOf t) (fun x => (hp (ix1 x)).trans (by omega)) i hj, count_eq_sum, Finset.sum_range, Finset.card_filter]
  refine Finset.sum_congr rfl fun x _ => ?_
  unfold pixBin
  rw [pixIdx_eq, binWord_toNat (hp _) (ht _)]
  rfl

/-- The 32 tiles' counts, summed, hold the table. -/
theorem holds_table {p t : S2097152.Idx → BitVec 32} (hp : ∀ i, (p i).toNat < 150) (ht : ∀ i, (t i).toNat < 150) :
    Holds (shapeCast S32x150x160 (tileCounts p t) shapeCasts_S32x24000_S32x150x160) (table (classOf p) (classOf t)) := by
  refine ⟨fun i j => ?_, fun i j hj => table_eq_zero _ (fun x => hp (ix1 x)) i hj⟩
  have e : ∀ w : Fin 32, (FloatOps.sitofp FTy.f32 (shapeCast S32x150x160 (tileCounts p t) shapeCasts_S32x24000_S32x150x160 (ix3 w i j)) : Ideal .f32)
      = ((count (tileBin p t w.val) 65536 (i.val * 160 + j.val) : ℕ) : EReal) := fun w => by
    rw [split_apply (tileCounts p t)]
    exact sitofp_ofNat (lt_of_le_of_lt (count_le _ _ _) (by norm_num))
  have s : k1_pay2 (F := Ideal) (shapeCast S32x150x160 (tileCounts p t) shapeCasts_S32x24000_S32x150x160) (ix2 i j)
      = ∑ w : Fin 32, FloatOps.sitofp FTy.f32 (shapeCast S32x150x160 (tileCounts p t) shapeCasts_S32x24000_S32x150x160 (ix3 w i j)) := by
    generalize shapeCast S32x150x160 (tileCounts p t) shapeCasts_S32x24000_S32x150x160 = y
    unfold k1_pay2
    pointwise
  rw [s, Finset.sum_congr rfl fun w _ => e w, ← Nat.cast_sum, ← count_eq_table hp ht i.val j.isLt]
  refine congrArg (fun k : ℕ => (k : EReal)) ?_
  rw [show (2097152 : ℕ) = 32 * 65536 from rfl, count_mul, Finset.sum_range]
  rfl

/-- The kernel's result is the three metrics of its arguments' table. -/
theorem metrics3_apply {a b : Vec Ideal S8x512x512 .i32} (ha : ∀ i, (a i).toNat < 150) (hb : ∀ i, (b i).toNat < 150) (l : Fin 3) :
    metrics3 (F := Ideal) a b (ix1 l)
      = (let n := table (classOf (shapeCast S2097152 a shapeCasts_S8x512x512_S2097152)) (classOf (shapeCast S2097152 b shapeCasts_S8x512x512_S2097152))
         ![miou n, overall n, perClass n] l) := by
  unfold metrics3
  rw [three_apply]
  exact metricsOf_apply (holds_table (fun i => ha _) fun i => hb _) l

end Cert.Proof.KernelIdeal

end
-- ==== Proof.ReferenceValue.lean ====
/-
  What the reference's result holds, at the extended reals: from classes below 150 its three elements are the three metrics of
  the table of counts. The reference's one long term is cut where its text has names, and each piece is read at an index.
-/
module

public import proofs.«01_k».proof.Proof.Gen.ReferenceIdeal
public import proofs.«01_k».proof.Proof.Gen.ReferenceIdeal.Run
public import proofs.«01_k».proof.Proof.Confusion
public import Idealize.ShloMosaic.Lib.Routing.OpsPair
public import Idealize.ShloMosaic.Lib.Routing.Ops

@[expose] public section

set_option maxRecDepth 16384

noncomputable section

namespace Cert.Proof.ReferenceIdeal

open Cert.ReferenceIdeal Cert.ReferenceIdeal.Facts₀ Cert.Proof.Confusion
open Idealize.ShloMosaic

/-! ## The pieces of the reference -/

/-- The scalar zero. -/
def zero : FVec Ideal S_ .f32 := constant S_ .f32 0x00000000#32

/-- The confusion matrix of two vectors of classes. -/
def confusion (p t : IVec S2097152 32) : FVec Ideal S150x150 .f32 :=
  transpose S150x150 [1, 0] (shapeCast S150x150 (Host.scatterAdd scatter_S22500_S2097152x1_S2097152_n_0_0_1
    (broadcastInDim S22500 ![] bcast_S_S22500 zero)
    (broadcastInDim S2097152x1 ![0] bcast_S2097152_S2097152x1_0
      (select (cmpi .ne t (broadcastInDim S2097152 ![] bcast_S_S2097152 (constantI S_ 32 4294967295#32)))
        (addi (muli t (broadcastInDim S2097152 ![] bcast_S_S2097152 (constantI S_ 32 150#32))) p)
        (broadcastInDim S2097152 ![] bcast_S_S2097152 (id (constantI S_ 32 0#32)))))
    (uitofp .f32 (cmpi .ne t (broadcastInDim S2097152 ![] bcast_S_S2097152 (constantI S_ 32 4294967295#32)))))
    shapeCasts_S22500_S150x150) transposes_S150x150_S150x150_1_0

/-- The sums of a matrix's rows. -/
def rowSums (v : FVec Ideal S150x150 .f32) : FVec Ideal S150 .f32 := Host.reduceAdd v zero reducesTo_S150x150_S150_d1 h_S_

/-- The sums of a matrix's columns. -/
def colSums (v : FVec Ideal S150x150 .f32) : FVec Ideal S150 .f32 := Host.reduceAdd v zero reducesTo_S150x150_S150_d0 h_S_

/-- A matrix's diagonal, as the rows' sums with the rest masked to zero. -/
def diagonal (v : FVec Ideal S150x150 .f32) : FVec Ideal S150 .f32 :=
  rowSums (select (cmpi .eq (iotaInDim S150x150 32 0) (iotaInDim S150x150 32 1)) v (broadcastInDim S150x150 ![] bcast_S_S150x150 (id zero)))

/-- The rows that do not sum to zero. -/
def present (v : FVec Ideal S150x150 .f32) : IVec S150 1 := noti (cmpf .oeq (rowSums v) (broadcastInDim S150 ![] bcast_S_S150 zero))

/-- The mean of a vector over the entries a mask keeps. -/
def maskedMean (k : IVec S150 1) (w : FVec Ideal S150 .f32) : FVec Ideal S_ .f32 :=
  Host.divf (Host.reduceAdd (select k w (broadcastInDim S150 ![] bcast_S_S150 (id zero))) zero reducesTo_S150_S_d0 h_S_)
    (sitofp .f32 (Host.reduce IntOp.addi (extui 32 k natLt_1_32) (constantI S_ 32 0#32) reducesTo_S150_S_d0 h_S_))

/-- Intersection over union, class by class. -/
def overUnion (v : FVec Ideal S150x150 .f32) : FVec Ideal S150 .f32 :=
  Host.divf (diagonal v) (subf (addf (rowSums v) (colSums v)) (diagonal v))

/-- A matrix with each row divided by its sum. -/
def normalized (v : FVec Ideal S150x150 .f32) : FVec Ideal S150x150 .f32 :=
  transpose S150x150 [1, 0] (Host.divf (transpose S150x150 [1, 0] v transposes_S150x150_S150x150_1_0)
    (broadcastInDim S150x150 ![0, 1] bcast_S1x150_S150x150_0_1 (broadcastInDim S1x150 ![1] bcast_S150_S1x150_1 (rowSums v))))
    transposes_S150x150_S150x150_1_0

/-- A matrix's trace over its total. -/
def traceOverTotal (v : FVec Ideal S150x150 .f32) : FVec Ideal S_ .f32 :=
  Host.divf (Host.reduceAdd (select (cmpi .eq (addi (iotaInDim S150x150 32 0) (broadcastInDim S150x150 ![] bcast_S_S150x150 (constantI S_ 32 0#32))) (iotaInDim S150x150 32 1))
      v (broadcastInDim S150x150 ![] bcast_S_S150x150 zero)) zero reducesTo_S150x150_S_d0_1 h_S_)
    (Host.reduceAdd v zero reducesTo_S150x150_S_d0_1 h_S_)

/-- The three results in one vector. -/
def triple (x y z : FVec Ideal S_ .f32) : FVec Ideal S3 .f32 :=
  concatenate S3 0 [⟨S1, broadcastInDim S1 ![] bcast_S_S1 x⟩, ⟨S1, broadcastInDim S1 ![] bcast_S_S1 y⟩, ⟨S1, broadcastInDim S1 ![] bcast_S_S1 z⟩]
    concatenates_S1_S1_S1_S3_d0

/-- The reference's result, of a confusion matrix. -/
def result (v : FVec Ideal S150x150 .f32) : FVec Ideal S3 .f32 :=
  triple (maskedMean (present v) (overUnion v)) (traceOverTotal v) (maskedMean (present v) (diagonal (normalized v)))

/-- The reference's value is that function of its arguments' confusion matrix. -/
theorem result_eq (m : (ℓ : Loc nD τ sig) → Buf (Elt Ideal) ℓ) (c : Dev nD) :
    Cert.ReferenceIdeal.Value.res_main_v54 (F := Ideal) m c
      = result (confusion (shapeCast S2097152 (m ((c.tc : Thread nD τ).loc main_arg0)) shapeCasts_S8x512x512_S2097152)
          (shapeCast S2097152 (m ((c.tc : Thread nD τ).loc main_arg1)) shapeCasts_S8x512x512_S2097152)) := rfl

/-! ## The metrics of a confusion matrix -/

variable {v : FVec Ideal S150x150 .f32} {n : ℕ → ℕ → ℕ}

/-- The matrix holds the table, rows by predicted class. -/
def Holds (v : FVec Ideal S150x150 .f32) (n : ℕ → ℕ → ℕ) : Prop := ∀ p t : Fin 150, v (ix2 p t) = ((n t.val p.val : ℕ) : EReal)

/-- A row's sum is how many pixels are predicted as its class. -/
theorem rowSums_apply (h : Holds v n) (p : Fin 150) : rowSums v (ix1 p) = ((predOf n p.val : ℕ) : EReal) := by
  unfold rowSums zero
  pointwise
  rw [Finset.sum_congr rfl fun t _ => h p t, ← Nat.cast_sum]
  rfl

/-- A column's sum is how many pixels truly are of its class. -/
theorem colSums_apply (h : Holds v n) (t : Fin 150) : colSums v (ix1 t) = ((trueOf n t.val : ℕ) : EReal) := by
  unfold colSums zero
  pointwise
  rw [Finset.sum_congr rfl fun p _ => h p t, ← Nat.cast_sum]
  rfl

/-- A diagonal entry of any matrix. -/
theorem diagonal_apply (w : FVec Ideal S150x150 .f32) (i : Fin 150) : diagonal w (ix1 i) = w (ix2 i i) := by
  unfold diagonal rowSums zero
  pointwise
  have e : ∀ j : Fin 150, Scalar.select (IntOp.cmpi CmpIPredicate.eq (BitVec.ofNat 32 i.val) (BitVec.ofNat 32 j.val)) (w (ix2 i j))
      (id (constant (F := Ideal) S_ FTy.f32 0#32) ix0) = if j = i then w (ix2 i i) else 0 := fun j => by
    rw [eq_bit (by omega) (by omega), select_bit]
    by_cases hj : j = i
    · rw [hj, if_pos rfl, if_pos rfl]
    · rw [if_neg hj, if_neg fun q => hj (Fin.ext q.symm)]
      exact Ideal.ofBits_zero .f32
  rw [Finset.sum_congr rfl fun j _ => e j, Finset.sum_ite_eq' Finset.univ, if_pos (Finset.mem_univ _)]

/-- The mask of the rows whose sum is not zero is that of the classes predicted at all. -/
theorem present_apply (h : Holds v n) (p : Fin 150) : present v (ix1 p) = BitVec.ofBool (decide (0 < predOf n p.val)) := by
  unfold present zero
  pointwise
  rw [rowSums_apply h, not_bit]
  refine congrArg BitVec.ofBool (decide_eq_decide.2 ?_)
  rw [Nat.cast_eq_zero, Nat.pos_iff_ne_zero]

/-- A mean over the classes predicted at all. -/
theorem maskedMean_apply (h : Holds v n) (w : FVec Ideal S150 .f32) (i : S_.Idx) :
    maskedMean (present v) w i = Ideal.div (∑ p : Fin 150, if 0 < predOf n p.val then w (ix1 p) else 0) (seen n : EReal) := by
  have hk := present_apply h
  generalize present v = k at hk
  unfold maskedMean zero
  pointwise
  have e : (fun p : Fin 150 => BitVec.setWidth 32 (k (ix1 p))) = fun p => BitVec.setWidth 32 (BitVec.ofBool (decide (0 < predOf n p.val))) := by
    funext p
    rw [hk]
  rw [e, sitofp_count]
  refine congrArg (Ideal.div · (seen n : EReal)) (Finset.sum_congr rfl fun p _ => ?_)
  rw [hk, select_bit]
  split
  · rfl
  · exact Ideal.ofBits_zero .f32

/-- Intersection over union of one class, in counts. -/
theorem overUnion_apply (h : Holds v n) (p : Fin 150) :
    overUnion v (ix1 p) = Ideal.div (n p.val p.val : EReal) ((predOf n p.val : EReal) + (trueOf n p.val : EReal) - (n p.val p.val : EReal)) := by
  unfold overUnion
  pointwise
  rw [diagonal_apply, rowSums_apply h, colSums_apply h, h]

/-- A diagonal entry of the normalised matrix, in counts. -/
theorem normalized_apply (h : Holds v n) (p : Fin 150) : normalized v (ix2 p p) = Ideal.div (n p.val p.val : EReal) (predOf n p.val : EReal) := by
  unfold normalized
  pointwise
  rw [rowSums_apply h, h]

/-- The trace over the total is the fraction of all pixels predicted right. -/
theorem traceOverTotal_apply (h : Holds v n) (i : S_.Idx) : traceOverTotal v i = overall n := by
  unfold traceOverTotal zero
  pointwise
  unfold overall
  have e : ∀ p t : Fin 150, Scalar.select (IntOp.cmpi CmpIPredicate.eq (IntOp.addi (BitVec.ofNat 32 p.val) 0#32) (BitVec.ofNat 32 t.val)) (v (ix2 p t)) (0 : EReal)
      = if t = p then (n p.val p.val : EReal) else 0 := fun p t => by
    rw [show IntOp.addi (BitVec.ofNat 32 p.val) 0#32 = BitVec.ofNat 32 p.val from BitVec.add_zero _, eq_bit (by omega) (by omega), select_bit, h]
    by_cases ht : t = p
    · rw [ht, if_pos rfl, if_pos rfl]
    · rw [if_neg ht, if_neg fun q => ht (Fin.ext q.symm)]
  rw [Finset.sum_congr rfl fun p _ => (Finset.sum_congr rfl fun t _ => e p t).trans
      ((Finset.sum_ite_eq' Finset.univ p _).trans (if_pos (Finset.mem_univ _))), Finset.sum_comm]
  refine congrArg (Ideal.div _) (Finset.sum_congr rfl fun t _ => ?_)
  rw [Finset.sum_congr rfl fun p _ => h p t, ← Nat.cast_sum]
  rfl

/-- The three scalars, each at its place. -/
theorem triple_apply (x y z : FVec Ideal S_ .f32) (l : Fin 3) : triple x y z (ix1 l) = ![x ix0, y ix0, z ix0] l := by
  unfold triple
  pointwise
  match l with
  | ⟨0, _⟩ => simp
  | ⟨1, _⟩ => simp
  | ⟨2, _⟩ => simp

/-- The result is the three metrics of the table the matrix holds. -/
theorem result_apply (h : Holds v n) (l : Fin 3) : result v (ix1 l) = ![miou n, overall n, perClass n] l := by
  unfold result
  rw [triple_apply, maskedMean_apply h, maskedMean_apply h, traceOverTotal_apply h]
  simp only [overUnion_apply h, diagonal_apply, normalized_apply h]
  rfl

/-! ## The confusion matrix -/

/-- The class of each pixel, as a number. -/
def classOf (a : S2097152.Idx → BitVec 32) (x : Fin 2097152) : ℕ := (a (ix1 x)).toNat

/-- The word under which a pixel is counted. -/
def keys (p t : IVec S2097152 32) : IVec S2097152 32 :=
  select (cmpi .ne t (broadcastInDim S2097152 ![] bcast_S_S2097152 (constantI S_ 32 4294967295#32)))
    (addi (muli t (broadcastInDim S2097152 ![] bcast_S_S2097152 (constantI S_ 32 150#32))) p)
    (broadcastInDim S2097152 ![] bcast_S_S2097152 (id (constantI S_ 32 0#32)))

/-- What a pixel counts for. -/
def weights (t : IVec S2097152 32) : FVec Ideal S2097152 .f32 :=
  uitofp .f32 (cmpi .ne t (broadcastInDim S2097152 ![] bcast_S_S2097152 (constantI S_ 32 4294967295#32)))

/-- A class below 150 is not the word of minus one. -/
theorem ne_bit {w : BitVec 32} (h : w.toNat < 150) : IntOp.cmpi CmpIPredicate.ne w 4294967295#32 = 1#1 := by
  have e : w ≠ 4294967295#32 := by
    rintro rfl
    revert h
    decide
  show BitVec.ofBool (w != 4294967295#32) = 1#1
  rw [bne_iff_ne.2 e]
  rfl

/-- Of classes below 150 the word is `150 t + p`, read signed. -/
theorem keys_apply {p t : IVec S2097152 32} (hp : ∀ i, (p i).toNat < 150) (ht : ∀ i, (t i).toNat < 150) (x : Fin 2097152) :
    (keys p t (ix1 x)).toInt = ((classOf t x * 150 + classOf p x : ℕ) : ℤ) := by
  unfold keys classOf
  pointwise
  rw [ne_bit (ht _)]
  have h1 := hp (ix1 x)
  have h2 := ht (ix1 x)
  generalize p (ix1 x) = a at h1
  generalize t (ix1 x) = b at h2
  show (b * 150#32 + a).toInt = _
  have e : (b * 150#32 + a).toNat = b.toNat * 150 + a.toNat := by
    rw [BitVec.toNat_add, BitVec.toNat_mul]
    simp only [BitVec.toNat_ofNat]
    rw [Nat.mod_eq_of_lt (a := 150) (by norm_num), Nat.mod_eq_of_lt (a := b.toNat * 150) (by omega), Nat.mod_eq_of_lt (by omega)]
  rw [BitVec.toInt_eq_toNat_cond, e, if_pos (by omega)]

/-- Every pixel of a class below 150 counts for one. -/
theorem weights_apply {t : IVec S2097152 32} (ht : ∀ i, (t i).toNat < 150) (x : Fin 2097152) : weights t (ix1 x) = 1 := by
  unfold weights
  pointwise
  rw [ne_bit (ht _)]
  show (((1#1 : BitVec 1).toNat : ℝ) : EReal) = 1
  simp

/-- An update lands on the element its key names. -/
theorem lands_iff (idx : IVec S2097152x1 32) (x : Fin 2097152) (e : Fin 22500) :
    scatter_S22500_S2097152x1_S2097152_n_0_0_1.resultIdx? (ix1 x) idx = some (ix1 e) ↔ (idx (ix2 x 0)).toInt = (e.val : ℤ) := by
  have hw : scatter_S22500_S2097152x1_S2097152_n_0_0_1.window (ix1 x) 0 = 0 := rfl
  have hi : scatter_S22500_S2097152x1_S2097152_n_0_0_1.siIdx (ix1 x) ⟨0, Nat.one_pos⟩ = ix2 x 0 := by
    funext b
    match b with
    | ⟨0, _⟩ => rfl
    | ⟨1, _⟩ => rfl
  have hs : scatter_S22500_S2097152x1_S2097152_n_0_0_1.start (ix1 x) idx 0 = (idx (ix2 x 0)).toInt := by
    rw [← hi]
    rfl
  rw [ix1_eq_valueIdx e, Routing.resultIdx?_ix1, hw, hs]
  simp

/-- Ones scattered into zeros count, at each element, the updates that the keys send there. -/
theorem scattered_ones {x : FVec Ideal S22500 .f32} {idx : IVec S2097152x1 32} {upd : FVec Ideal S2097152 .f32} {key : Fin 2097152 → ℕ}
    (hx : ∀ e, x (ix1 e) = (0 : EReal)) (hu : ∀ y, upd (ix1 y) = (1 : EReal)) (hk : ∀ y, (idx (ix2 y 0)).toInt = (key y : ℤ)) (e : Fin 22500) :
    Host.scatterAdd scatter_S22500_S2097152x1_S2097152_n_0_0_1 x idx upd (ix1 e)
      = (((Finset.univ.filter fun y => key y = e.val).card : ℕ) : EReal) := by
  unfold Host.scatterAdd
  rw [Ideal.hostScatterAdd_def]
  unfold Ideal.hostScatterAdd
  rw [hx, zero_add, Finset.sum_filter, sum_idx1, Finset.card_filter, Nat.cast_sum]
  refine Finset.sum_congr rfl fun y _ => ?_
  rw [hu]
  have q : scatter_S22500_S2097152x1_S2097152_n_0_0_1.resultIdx? (ix1 y) idx = some (ix1 e) ↔ key y = e.val := by
    rw [lands_iff, hk]
    exact Nat.cast_inj
  by_cases hq : key y = e.val
  · rw [if_pos hq, if_pos (q.2 hq), Nat.cast_one]
  · rw [if_neg hq, if_neg fun r => hq (q.1 r), Nat.cast_zero]

/-- A vector of keys as a column. -/
theorem column_apply (k : IVec S2097152 32) (y : Fin 2097152) : broadcastInDim S2097152x1 ![0] bcast_S2097152_S2097152x1_0 k (ix2 y 0) = k (ix1 y) := by
  pointwise

/-- The vector of zeros. -/
theorem zeros_apply (i : S22500.Idx) : broadcastInDim S22500 ![] bcast_S_S22500 zero i = (0 : EReal) := Ideal.ofBits_zero .f32

/-- The scattered sums hold the table. -/
theorem scattered_apply {p t : IVec S2097152 32} (hp : ∀ i, (p i).toNat < 150) (ht : ∀ i, (t i).toNat < 150) (i j : Fin 150) (e : Fin 22500)
    (he : e.val = j.val * 150 + i.val) :
    Host.scatterAdd scatter_S22500_S2097152x1_S2097152_n_0_0_1 (broadcastInDim S22500 ![] bcast_S_S22500 zero)
      (broadcastInDim S2097152x1 ![0] bcast_S2097152_S2097152x1_0 (keys p t)) (weights t) (ix1 e)
        = ((table (classOf p) (classOf t) j.val i.val : ℕ) : EReal) := by
  rw [scattered_ones (fun _ => zeros_apply _) (weights_apply ht) (fun y => by rw [column_apply, keys_apply hp ht]) e, he,
    ← table_eq_keys (c := 150) (p := classOf p) (classOf t) (fun x => hp (ix1 x)) j.val i.isLt]

/-- The confusion matrix holds the table. -/
theorem holds_table {p t : IVec S2097152 32} (hp : ∀ i, (p i).toNat < 150) (ht : ∀ i, (t i).toNat < 150) :
    Holds (confusion p t) (table (classOf p) (classOf t)) := fun i j => by
  refine Eq.trans ?_ (scattered_apply hp ht i j ⟨j.val * 150 + i.val, by omega⟩ rfl)
  have e : ∀ s : FVec Ideal S22500 .f32, transpose S150x150 [1, 0] (shapeCast S150x150 s shapeCasts_S22500_S150x150) transposes_S150x150_S150x150_1_0 (ix2 i j)
      = s (ix1 ⟨j.val * 150 + i.val, by omega⟩) := fun s => by pointwise
  exact e _

/-- The reference's result is the three metrics of its arguments' table. -/
theorem result_table {p t : IVec S2097152 32} (hp : ∀ i, (p i).toNat < 150) (ht : ∀ i, (t i).toNat < 150) (l : Fin 3) :
    result (confusion p t) (ix1 l) = (let n := table (classOf p) (classOf t); ![miou n, overall n, perClass n] l) :=
  result_apply (holds_table hp ht) l

end Cert.Proof.ReferenceIdeal

end
-- ==== Proof.Algebraic.lean ====
/-
  The kernel and the reference end with the same three numbers, at the extended reals: each ends with the metrics of the table
  of counts of its own two arguments, and the arguments are the same.
-/
module

public import proofs.«01_k».proof.Proof.Frames
public import proofs.«01_k».proof.Proof.KernelValue
public import proofs.«01_k».proof.Proof.ReferenceValue

@[expose] public section

noncomputable section

namespace Cert.Proof

open Idealize.ShloMosaic Idealize.SL.Sem

/-- The two results are one vector. -/
theorem metrics_eq {a b : IVec Cert.KernelIdeal.S8x512x512 32} (ha : ∀ i, (a i).toNat < 150) (hb : ∀ i, (b i).toNat < 150) :
    ReferenceIdeal.result (ReferenceIdeal.confusion
        (shapeCast Cert.ReferenceIdeal.S2097152 a Cert.ReferenceIdeal.Facts₀.shapeCasts_S8x512x512_S2097152)
        (shapeCast Cert.ReferenceIdeal.S2097152 b Cert.ReferenceIdeal.Facts₀.shapeCasts_S8x512x512_S2097152))
      = KernelIdeal.metrics3 (F := Ideal) a b := by
  funext i
  rw [eq_ix1 i]
  exact (ReferenceIdeal.result_table (fun _ => ha _) (fun _ => hb _) (i 0)).trans (KernelIdeal.metrics3_apply ha hb (i 0)).symm

/-- From the same arguments, of classes below 150, the two programs end with the same result. -/
theorem algebraic : Cert.algebraic_KernelIdeal_ReferenceIdeal := fun m g m' g' hpre hargs => by
  have hc := fun d => Classes.of_pre _ _ (hpre d)
  refine ⟨fun c => KernelIdeal.metrics3 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    (θ_run Cert.KernelIdeal.defs _ _).mono (fun r h c => h.1 c) (KernelIdeal.run_main (F := Ideal) m g hc),
    (θ_run Cert.ReferenceIdeal.defs _ _).mono (fun r h c => ⟨(h c).1.trans ?_, (h c).2⟩) (Cert.ReferenceIdeal.Value.run (F := Ideal) m' g')⟩
  rw [ReferenceIdeal.result_eq, (hargs c).1, (hargs c).2]
  exact metrics_eq (hc c).1 (hc c).2

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_classes
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_classes.Gen.facts,
  frame_kernel, frame_kernelIdeal, frame_reference, frame_reference_classes, trivial, algebraic⟩

end Cert.Proof

end
